-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unclipped_KernelIdeal [hPre_unclipped_KernelIdeal : Cert.Pre_unclipped_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_unclipped_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unclipped_ReferenceIdeal [hPre_unclipped_ReferenceIdeal : Cert.Pre_unclipped_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unclipped_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_unclipped_KernelIdeal [hKernelIdeal : Cert.KernelIdeal.Facts] [hPre_unclipped_KernelIdeal : Cert.Pre_unclipped_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unclipped_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_unclipped_ReferenceIdeal [hReferenceIdeal : Cert.ReferenceIdeal.Facts] [hPre_unclipped_ReferenceIdeal : Cert.Pre_unclipped_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unclipped_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_unclipped_KernelIdeal [hKernelIdeal : Cert.KernelIdeal.Facts] [hReferenceIdeal : Cert.ReferenceIdeal.Facts] [hPre_unclipped_KernelIdeal : Cert.Pre_unclipped_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unclipped_KernelIdeal m →
    (∀ c : Dev Cert.KernelIdeal.nD,
      m ((c.tc : Thread Cert.KernelIdeal.nD Cert.KernelIdeal.τ).loc Cert.KernelIdeal.main_arg0) = Layout.block ⟨2, ![256, 2048]⟩ ⟨2, ![2048, 2048]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 256]⟩ ⟨2, ![2048, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_unclipped_KernelIdeal : Cert.Pre_unclipped_KernelIdeal.Facts) (hPre_unclipped_ReferenceIdeal : Cert.Pre_unclipped_ReferenceIdeal.Facts),
    quiescent_Kernel (hKernel := hKernel)
    ∧ quiescent_KernelIdeal (hKernelIdeal := hKernelIdeal)
    ∧ quiescent_KernelIdeal_pre_unclipped_KernelIdeal (hKernelIdeal := hKernelIdeal) (hPre_unclipped_KernelIdeal := hPre_unclipped_KernelIdeal)
    ∧ quiescent_ReferenceIdeal (hReferenceIdeal := hReferenceIdeal)
    ∧ quiescent_ReferenceIdeal_pre_unclipped_ReferenceIdeal (hReferenceIdeal := hReferenceIdeal) (hPre_unclipped_ReferenceIdeal := hPre_unclipped_ReferenceIdeal)
    ∧ preserves_Kernel_KernelIdeal
    ∧ algebraic_KernelIdeal_ReferenceIdeal_pre_unclipped_KernelIdeal (hKernelIdeal := hKernelIdeal) (hReferenceIdeal := hReferenceIdeal) (hPre_unclipped_KernelIdeal := hPre_unclipped_KernelIdeal)
-- ==== Pre_unclipped_KernelIdeal.lean ====
abbrev S256x2048 : Shape := ⟨2, ![256, 2048]⟩
abbrev S2048x2048 : Shape := ⟨2, ![2048, 2048]⟩
abbrev S_ : Shape := ⟨0, ![]⟩

class Facts : Prop where
  bcast_S_S256x2048 : S_.BroadcastsInDim S256x2048 (![] : Fin 0 → Fin S256x2048.rank)
  reducesTo_S256x2048_S_d0_1 : S256x2048.ReducesTo [0, 1] S_
  h_S_ : 0 < S_.numel
  dot_S256x2048_S2048x2048_S256x2048_1_0_0_1_n_n_wf : DotDims.WF S256x2048 S2048x2048 S256x2048 [1] [0] [0] [1] [] []

variable [Facts]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def fn {F : FTy → Type} [FloatOps F] (main_arg0 : FVec F S256x2048 .f32) (main_arg1 : FVec F S2048x2048 .f32) : IVec S_ 1 :=
  let main_v0 : FVec F S256x2048 .f32 := (fun l r => Host.dotGeneral dot_S256x2048_S2048x2048_S256x2048_1_0_0_1_n_n none l r) main_arg0 main_arg1
  let main_v1 : FVec F S256x2048 .f32 := Host.absf main_v0
  let main_cst : FVec F S_ .f32 := constant S_ .f32 0x42700000#32
  let main_v2 : FVec F S256x2048 .f32 := broadcastInDim S256x2048 ![] bcast_S_S256x2048 main_cst
  let main_v3 : IVec S256x2048 1 := cmpf .ole main_v1 main_v2
  let main_c : IVec S_ 1 := constantI S_ 1 1#1
  let main_v4 : IVec S_ 1 := (fun x v => Host.reduce IntOp.andi x v reducesTo_S256x2048_S_d0_1 h_S_) main_v3 main_c
  main_v4
-- ==== Pre_unclipped_ReferenceIdeal.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  dot_S2048x2048_S2048x2048_S2048x2048_1_0_0_1_n_n_wf : DotDims.WF S2048x2048 S2048x2048 S2048x2048 [1] [0] [0] [1] [] []

variable [Facts]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def fn {F : FTy → Type} [FloatOps F] (main_arg0 : FVec F S2048x2048 .f32) (main_arg1 : FVec F S2048x2048 .f32) : IVec S_ 1 :=
  let main_v0 : FVec F S2048x2048 .f32 := (fun l r => Host.dotGeneral dot_S2048x2048_S2048x2048_S2048x2048_1_0_0_1_n_n none l r) main_arg0 main_arg1
  let main_v1 : FVec F S2048x2048 .f32 := Host.absf main_v0
  let main_cst : FVec F S_ .f32 := constant S_ .f32 0x42700000#32
  let main_v2 : FVec F S2048x2048 .f32 := broadcastInDim S2048x2048 ![] bcast_S_S2048x2048 main_cst
  let main_v3 : IVec S2048x2048 1 := cmpf .ole main_v1 main_v2
  let main_c : IVec S_ 1 := constantI S_ 1 1#1
  let main_v4 : IVec S_ 1 := (fun x v => Host.reduce IntOp.andi x v reducesTo_S2048x2048_S_d0_1 h_S_) main_v3 main_c
  main_v4
-- ==== Kernel.lean ====
abbrev S256x2048 : Shape := ⟨2, ![256, 2048]⟩
abbrev S2048x2048 : Shape := ⟨2, ![2048, 2048]⟩
abbrev S2048x256 : Shape := ⟨2, ![2048, 256]⟩
abbrev S3x2048x256 : Shape := ⟨3, ![3, 2048, 256]⟩
abbrev S8x256x256 : Shape := ⟨3, ![8, 256, 256]⟩
abbrev S_ : Shape := ⟨0, ![]⟩
abbrev S3 : Shape := ⟨1, ![3]⟩
abbrev S8 : Shape := ⟨1, ![8]⟩
abbrev S1 : Shape := ⟨1, ![1]⟩
abbrev S1x2048x256 : Shape := ⟨3, ![1, 2048, 256]⟩
abbrev S256x256 : Shape := ⟨2, ![256, 256]⟩
abbrev S1x256x256 : Shape := ⟨3, ![1, 256, 256]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S2048x2048, .f32⟩
  | .hbm, ⟨2, _⟩ => ⟨S2048x256, .f32⟩
  | .local _ .vmem, ⟨0, _⟩ => ⟨S256x2048, .f32⟩
  | .local _ .vmem, ⟨1, _⟩ => ⟨S3x2048x256, .f32⟩
  | .local _ .vmem, ⟨2, _⟩ => ⟨S8x256x256, .f32⟩
  | .local _ .vmem, ⟨3, _⟩ => ⟨S8x256x256, .bf16⟩
  | .local _ .vmem, ⟨4, _⟩ => ⟨S8x256x256, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 1 28 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 8
abbrev τ : Topo := Topo.v7x

variable {F : FTy → Type} [FloatOps F]

abbrev grid0 : Pipeline.Grid := .none

def k0_off1 (d0 : Dev nD) (c2_i32 : BitVec 32) : Fin 2 → Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.addi v2 c2_i32
  let c8_i32_0 : BitVec 32 := 8#32
  let v4 : BitVec 32 := Scalar.remsi v3 c8_i32_0
  let c256_i32 : BitVec 32 := 256#32
  let v17 : BitVec 32 := Scalar.muli v4 c256_i32
  ![0, v17.toNat]
def k0_dev1 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_18 : BitVec 32 := 1#32
  let v30 : BitVec 32 := Scalar.addi v2 c1_i32_18
  let c8_i32_19 : BitVec 32 := 8#32
  let v31 : BitVec 32 := Scalar.remsi v30 c8_i32_19
  let c1_i32_21 : BitVec 32 := 1#32
  let v32 : BitVec 32 := Scalar.muli v31 c1_i32_21
  let v33 : BitVec 32 := Scalar.addi c0_i32_22 v32
  v33.toNat
def k0_dev2 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_23 : BitVec 32 := 2#32
  let v34 : BitVec 32 := Scalar.addi v2 c2_i32_23
  let c8_i32_24 : BitVec 32 := 8#32
  let v35 : BitVec 32 := Scalar.remsi v34 c8_i32_24
  let c1_i32_26 : BitVec 32 := 1#32
  let v36 : BitVec 32 := Scalar.muli v35 c1_i32_26
  let v37 : BitVec 32 := Scalar.addi c0_i32_27 v36
  v37.toNat
def k0_dev3 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_28 : BitVec 32 := 3#32
  let v38 : BitVec 32 := Scalar.addi v2 c3_i32_28
  let c8_i32_29 : BitVec 32 := 8#32
  let v39 : BitVec 32 := Scalar.remsi v38 c8_i32_29
  let c1_i32_31 : BitVec 32 := 1#32
  let v40 : BitVec 32 := Scalar.muli v39 c1_i32_31
  let v41 : BitVec 32 := Scalar.addi c0_i32_32 v40
  v41.toNat
def k0_dev4 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_33 : BitVec 32 := 4#32
  let v42 : BitVec 32 := Scalar.addi v2 c4_i32_33
  let c8_i32_34 : BitVec 32 := 8#32
  let v43 : BitVec 32 := Scalar.remsi v42 c8_i32_34
  let c1_i32_36 : BitVec 32 := 1#32
  let v44 : BitVec 32 := Scalar.muli v43 c1_i32_36
  let v45 : BitVec 32 := Scalar.addi c0_i32_37 v44
  v45.toNat
def k0_dev5 (d0 : Dev nD) : Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_38 : BitVec 32 := 5#32
  let v46 : BitVec 32 := Scalar.addi v2 c5_i32_38
  let c8_i32_39 : BitVec 32 := 8#32
  let v47 : BitVec 32 := Scalar.remsi v46 c8_i32_39
  let c1_i32_41 : BitVec 32 := 1#32
  let v48 : BitVec 32 := Scalar.muli v47 c1_i32_41
  let v49 : BitVec 32 := Scalar.addi c0_i32_42 v48
  v49.toNat
def k0_dev6 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_43 : BitVec 32 := 6#32
  let v50 : BitVec 32 := Scalar.addi v2 c6_i32_43
  let c8_i32_44 : BitVec 32 := 8#32
  let v51 : BitVec 32 := Scalar.remsi v50 c8_i32_44
  let c1_i32_46 : BitVec 32 := 1#32
  let v52 : BitVec 32 := Scalar.muli v51 c1_i32_46
  let v53 : BitVec 32 := Scalar.addi c0_i32_47 v52
  v53.toNat
def k0_dev7 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_48 : BitVec 32 := 7#32
  let v54 : BitVec 32 := Scalar.addi v2 c7_i32_48
  let c8_i32_49 : BitVec 32 := 8#32
  let v55 : BitVec 32 := Scalar.remsi v54 c8_i32_49
  let c1_i32_51 : BitVec 32 := 1#32
  let v56 : BitVec 32 := Scalar.muli v55 c1_i32_51
  let v57 : BitVec 32 := Scalar.addi c0_i32_52 v56
  v57.toNat
def k0_dev8 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.addi v2 c2_i32
  let c8_i32_0 : BitVec 32 := 8#32
  let v4 : BitVec 32 := Scalar.remsi v3 c8_i32_0
  let c1_i32_76 : BitVec 32 := 1#32
  let v80 : BitVec 32 := Scalar.muli v4 c1_i32_76
  let v81 : BitVec 32 := Scalar.addi c0_i32_77 v80
  v81.toNat
def k0_dev9 (d0 : Dev nD) : Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v5 : BitVec 32 := Scalar.addi v2 c6_i32
  let c8_i32_1 : BitVec 32 := 8#32
  let v6 : BitVec 32 := Scalar.remsi v5 c8_i32_1
  let c1_i32_105 : BitVec 32 := 1#32
  let v112 : BitVec 32 := Scalar.muli v6 c1_i32_105
  let v113 : BitVec 32 := Scalar.addi c0_i32_106 v112
  v113.toNat
def k0_dev10 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.addi v2 c3_i32
  let c8_i32_2 : BitVec 32 := 8#32
  let v8 : BitVec 32 := Scalar.remsi v7 c8_i32_2
  let c1_i32_135 : BitVec 32 := 1#32
  let v144 : BitVec 32 := Scalar.muli v8 c1_i32_135
  let v145 : BitVec 32 := Scalar.addi c0_i32_136 v144
  v145.toNat
def k0_dev11 (d0 : Dev nD) : Nat :=
  let c0_i32_166 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v9 : BitVec 32 := Scalar.addi v2 c5_i32
  let c8_i32_3 : BitVec 32 := 8#32
  let v10 : BitVec 32 := Scalar.remsi v9 c8_i32_3
  let c1_i32_165 : BitVec 32 := 1#32
  let v176 : BitVec 32 := Scalar.muli v10 c1_i32_165
  let v177 : BitVec 32 := Scalar.addi c0_i32_166 v176
  v177.toNat
def k0_dev12 (d0 : Dev nD) : Nat :=
  let c0_i32_197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v11 : BitVec 32 := Scalar.addi v2 c1_i32_4
  let c8_i32_5 : BitVec 32 := 8#32
  let v12 : BitVec 32 := Scalar.remsi v11 c8_i32_5
  let c1_i32_196 : BitVec 32 := 1#32
  let v208 : BitVec 32 := Scalar.muli v12 c1_i32_196
  let v209 : BitVec 32 := Scalar.addi c0_i32_197 v208
  v209.toNat
def k0_off2 (d0 : Dev nD) : Fin 2 → Nat :=
  let c0_i32_207 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_202 : BitVec 32 := 256#32
  let v218 : BitVec 32 := Scalar.muli v2 c256_i32_202
  ![0, v218.toNat]
def k0_dev13 (d0 : Dev nD) : Nat :=
  let c0_i32_227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v13 : BitVec 32 := Scalar.addi v2 c7_i32
  let c8_i32_6 : BitVec 32 := 8#32
  let v14 : BitVec 32 := Scalar.remsi v13 c8_i32_6
  let c1_i32_226 : BitVec 32 := 1#32
  let v240 : BitVec 32 := Scalar.muli v14 c1_i32_226
  let v241 : BitVec 32 := Scalar.addi c0_i32_227 v240
  v241.toNat
def k0_dev14 (d0 : Dev nD) : Nat :=
  let c0_i32_251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v15 : BitVec 32 := Scalar.addi v2 c4_i32
  let c8_i32_7 : BitVec 32 := 8#32
  let v16 : BitVec 32 := Scalar.remsi v15 c8_i32_7
  let c1_i32_250 : BitVec 32 := 1#32
  let v266 : BitVec 32 := Scalar.muli v16 c1_i32_250
  let v267 : BitVec 32 := Scalar.addi c0_i32_251 v266
  v267.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_271 : BitVec 32 := 256#32
  let v291 : BitVec 32 := Scalar.muli v2 c256_i32_271
  let c0_i32_274 : BitVec 32 := 0#32
  ![v291.toNat, 0]
def k0_off4 (d0 : Dev nD) (c2_i32_277 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v297 : BitVec 32 := Scalar.subi v2 c2_i32_277
  let c8_i32_278 : BitVec 32 := 8#32
  let v298 : BitVec 32 := Scalar.addi v297 c8_i32_278
  let c8_i32_279 : BitVec 32 := 8#32
  let v299 : BitVec 32 := Scalar.remsi v298 c8_i32_279
  let c256_i32_296 : BitVec 32 := 256#32
  let v314 : BitVec 32 := Scalar.muli v299 c256_i32_296
  let c0_i32_299 : BitVec 32 := 0#32
  ![v314.toNat, 0]
-- ==== ReferenceIdeal.lean ====
abbrev S2048x2048 : Shape := ⟨2, ![2048, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.Common.lean ====
/-
# The exchange kernel: memory pieces, cells, schedule and levels

Eight devices. Device `c` holds 256 rows `x` of the left operand and the whole right operand `w`, computes for every
device `t` the tile `silu (x · w[:, 256 t ..])`, keeps the tile of its own columns and sends the tile for `t = c + d`,
rounded to bf16, into slot `d` of `t`'s receive buffer. Distances `d` are elements of `Fin 8`, which adds modulo eight as
the devices do, so slot `d` of `c`'s receive buffer is written by `c - d` and by no other device.

Who waits for what, in the rounds library's words (one round, duties named by `Fin 8`):

* barrier cell of `c`: seven duties `e ≠ 0` of one unit. Duty `e` is paid by `c + e`, whose payload lends `c` slot `e` of the
  receive buffer on `c + e`, at any contents, and the fact that `c + e` has reached round 0 of that slot's receive cell.
  `c` waits for seven units once and then may write into all seven neighbours.
* receive cell `d` of `c` (`d ≠ 0`): one duty of a tile's credit, paid by the copy from `c - d`; the payload is the slot
  holding the tile that `c - d` computed for `c`.
* send cell `d` of `c`: one duty of a tile's credit, paid by `c`'s own copy at distance `d`; the payload is send slot `d` back.

All other DMA semaphores are counters that only their own device touches.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Ring
public import Idealize.ShloMosaic.Lib.Tactic

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's part, the rounds' part, the local copies' counters -/

abbrev UB : Type := URounds (GSem nD τ sig) (Fin 8)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

abbrev 𝒱₀ : Variants := Variants.none

variable (m : (ℓ : Loc nD τ sig) → Buf (Elt F) ℓ) (ρ : Dev nD → PrngReg)

/-- The state at launch: arbitrary contents, every semaphore counter zero, arbitrary generator registers. -/
def s₀ : MemSt nD τ sig (Elt F) := ⟨m, fun _ => 0, ρ⟩

/-! ## Distances -/

/-- Going a distance and back. -/
theorem back_neg (c : Dev nD) (d : Fin 8) : c + d + -d = c := by revert c d; decide
/-- Going on by a distance and back again. -/
theorem back_sub (c : Dev nD) (d : Fin 8) : c + d - d = c := by revert c d; decide
/-- Distance zero is the device itself. -/
theorem back_zero (c : Dev nD) : c + 0 = c := by revert c; decide
/-- The way back from another device is no zero distance either. -/
theorem neg_away {d : Fin 8} : d ≠ 0 → -d ≠ 0 := by revert d; decide

/-! ## The pieces of memory -/

/-- Slot `d` of an eight-slot buffer lies in it. -/
theorem slot_inb (d : Fin 8) : ∀ a, (![d.val, 0, 0] : Fin 3 → Nat) a + S1x256x256.size a ≤ S8x256x256.size a := by
  revert d; decide
/-- Slot `s` of the three-slot weight buffer lies in it. -/
theorem wslot_inb (s : Fin 3) : ∀ a, (![s.val, 0, 0] : Fin 3 → Nat) a + S1x2048x256.size a ≤ S3x2048x256.size a := by
  revert s; decide
/-- Column block `k` lies in the right operand. -/
theorem wcol_inb (k : Fin 8) : ∀ a, (![0, 256 * k.val] : Fin 2 → Nat) a + S2048x256.size a ≤ S2048x2048.size a := by
  revert k; decide
/-- Row block `k` lies in the result. -/
theorem orow_inb (k : Fin 8) : ∀ a, (![256 * k.val, 0] : Fin 2 → Nat) a + S256x256.size a ≤ S2048x256.size a := by
  revert k; decide

abbrev slotR (d : Fin 8) : Rect S8x256x256 := Rect.unit (s := S8x256x256) ![d.val, 0, 0] S1x256x256.size (slot_inb d)
abbrev wslotR (s : Fin 3) : Rect S3x2048x256 := Rect.unit (s := S3x2048x256) ![s.val, 0, 0] S1x2048x256.size (wslot_inb s)
abbrev wcolR (k : Fin 8) : Rect S2048x2048 := Rect.unit (s := S2048x2048) ![0, 256 * k.val] S2048x256.size (wcol_inb k)
abbrev orowR (k : Fin 8) : Rect S2048x256 := Rect.unit (s := S2048x256) ![256 * k.val, 0] S256x256.size (orow_inb k)

abbrev xHbm : Memref sig .tc .hbm S256x2048 .f32 := Memref.whole main_arg0
abbrev wHbm : Memref sig .tc .hbm S2048x2048 .f32 := Memref.whole main_arg1
abbrev oHbm : Memref sig .tc .hbm S2048x256 .f32 := Memref.whole main_v1
abbrev xBuf : Memref sig .tc .vmem S256x2048 .f32 := Memref.whole cc0_scratch0
abbrev wBuf : Memref sig .tc .vmem S3x2048x256 .f32 := Memref.whole cc0_scratch1
abbrev stageBuf : Memref sig .tc .vmem S8x256x256 .f32 := Memref.whole cc0_scratch2
abbrev sendBuf : Memref sig .tc .vmem S8x256x256 .bf16 := Memref.whole cc0_scratch3
abbrev recvBuf : Memref sig .tc .vmem S8x256x256 .bf16 := Memref.whole cc0_scratch4

/-- Slot `d` of the send, receive and staging buffers; slot `s` of the weight buffer. -/
abbrev sendM (d : Fin 8) : Memref sig .tc .vmem S256x256 .bf16 := (sendBuf.slice (slotR d) (fun _ => rfl)).squeeze S256x256 squeezes_S1x256x256_S256x256
abbrev recvM (d : Fin 8) : Memref sig .tc .vmem S256x256 .bf16 := (recvBuf.slice (slotR d) (fun _ => rfl)).squeeze S256x256 squeezes_S1x256x256_S256x256
abbrev stageM (d : Fin 8) : Memref sig .tc .vmem S256x256 .f32 := (stageBuf.slice (slotR d) (fun _ => rfl)).squeeze S256x256 squeezes_S1x256x256_S256x256
abbrev wslotM (s : Fin 3) : Memref sig .tc .vmem S2048x256 .f32 := (wBuf.slice (wslotR s) (fun _ => rfl)).squeeze S2048x256 squeezes_S1x2048x256_S2048x256
/-- Column block `k` of the right operand; row block `k` of the result. -/
abbrev wcolM (k : Fin 8) : Memref sig .tc .hbm S2048x256 .f32 := wHbm.slice (wcolR k) (fun _ => rfl)
abbrev orowM (k : Fin 8) : Memref sig .tc .hbm S256x256 .f32 := oHbm.slice (orowR k) (fun _ => rfl)

/-! ## The semaphores -/

abbrev barS : Sem sig := (SemArray.scalar (sig.barrier 0 rfl) : Sems sig S_).sem
def xS : DmaSem sig := (⟨0, by decide⟩ : Fin 28)
def wS (s : Fin 3) : DmaSem sig := (⟨1 + s.val, by omega⟩ : Fin 28)
def outS (d : Fin 8) : DmaSem sig := (⟨4 + d.val, by omega⟩ : Fin 28)
def sendS (d : Fin 8) : DmaSem sig := (⟨12 + d.val, by omega⟩ : Fin 28)
def recvS (d : Fin 8) : DmaSem sig := (⟨20 + d.val, by omega⟩ : Fin 28)

abbrev barC (c : Dev nD) : GSem nD τ sig := ((c : Thread nD τ), .reg barS)
abbrev sendC (c : Dev nD) (d : Fin 8) : GSem nD τ sig := ((c : Thread nD τ), .dma (sendS d))
abbrev recvC (c : Dev nD) (d : Fin 8) : GSem nD τ sig := ((c : Thread nD τ), .dma (recvS d))

/-- A tile's credit. -/
def N : ℕ := (recvM 0).view.dmaCredit
/-- A tile's credit is positive. -/
theorem N_pos : 0 < N := View.dmaCredit_pos _ (by decide)
/-- A copy into a receive slot credits one tile, -/
theorem credit_recv (d : Fin 8) : (recvM d).view.dmaCredit = N := rfl
/-- and so does one out of a send slot. -/
theorem credit_send (d : Fin 8) : (sendM d).view.dmaCredit = N := rfl

/-! ## Contents -/

/-- The tile of `x` rows and a column block before the activation, after it, and rounded. -/
def lin (x : FVec F S256x2048 .f32) (w : FVec F S2048x256 .f32) : FVec F S256x256 .f32 :=
  matmul dot_S256x2048_S2048x256_S256x256_1_0_0_1_n_n none x w (constant S256x256 .f32 0x00000000#32)
def act (x : FVec F S256x2048 .f32) (w : FVec F S2048x256 .f32) : FVec F S256x256 .f32 := mulf (lin x w) (logistic (lin x w))
def chunk (x : FVec F S256x2048 .f32) (w : FVec F S2048x256 .f32) : FVec F S256x256 .bf16 := truncf .bf16 (act x w) bitsLt_bf16_f32

/-- Device `c`'s rows, and its column block `k`. -/
def xv (c : Dev nD) : FVec F S256x2048 .f32 := m ((c : Thread nD τ).loc main_arg0)
def wv (c : Dev nD) (k : Fin 8) : FVec F S2048x256 .f32 := (wcolM k).view.read (Elt F) (m ((c : Thread nD τ).loc main_arg1))
/-- The tile device `c` computes for column block `k`, as sent. -/
def tile (c : Dev nD) (k : Fin 8) : FVec F S256x256 .bf16 := chunk (xv m c) (wv m c k)
/-- What device `c` ends with in the row block that came from distance `d`. -/
def outv (c : Dev nD) (d : Fin 8) : FVec F S256x256 .f32 :=
  if d = 0 then act (xv m c) (wv m c c) else extf .f32 (tile m (c - d) c) bitsLt_bf16_f32

/-- A piece held whole at some contents. -/
def anyAt (c : Thread nD τ) {sp : Space} {sh : Shape} {e : EltTy} (M : Memref sig c.2.kind sp sh e) : sProp 𝕄 :=
  iprop(∃ X, owns c M fullShare X)

instance anyAt_storable (c : Thread nD τ) {sp : Space} {sh : Shape} {e : EltTy} (M : Memref sig c.2.kind sp sh e) :
    BI.Storable (upEmb : UEmb _ 𝕄) (anyAt (F := F) c M) := by unfold anyAt; infer_instance

/-! ## The schedule -/

/-- What duty `e` of `c`'s barrier cell hands `c`: receive slot `e` on `c + e`. -/
def barPay (c : Dev nD) (e : Fin 8) : sProp 𝕄 := iprop(anyAt ((c + e : Dev nD) : Thread nD τ) (recvM e) ∗ reached ER (recvC (c + e) e) 0)
def recvPay (c : Dev nD) (d : Fin 8) : sProp 𝕄 := owns (c : Thread nD τ) (recvM d) fullShare (tile m (c - d) c)
def sendPay (c : Dev nD) (d : Fin 8) : sProp 𝕄 := anyAt (c : Thread nD τ) (sendM d)

/-- The slot that a send or a receive semaphore serves. -/
def slotOf (s : DmaSem sig) : Fin 8 := ⟨(s.val + 4) % 8, Nat.mod_lt _ (by decide)⟩

/-- The duties of a semaphore: the seven nonzero distances for the barrier, one for a send or receive semaphore that is used. -/
def dutiesOf : SemLoc sig → Finset (Fin 8)
  | .reg _ => Finset.univ.erase 0
  | .dma s => if 12 ≤ s.val ∧ slotOf s ≠ 0 then {0} else ∅

def amountOf : SemLoc sig → ℕ
  | .reg _ => 1
  | .dma _ => N

def payOf (c : Dev nD) (e : Fin 8) : SemLoc sig → sProp 𝕄
  | .reg _ => barPay c e
  | .dma s => if 20 ≤ s.val then recvPay m c (slotOf s) else sendPay c (slotOf s)

/-- One round, round 0. -/
def Rd : Schedule (GSem nD τ sig) (Fin 8) 𝕄 where
  duties g r := if r = 0 ∧ g.1.2 = .tc then dutiesOf g.2 else ∅
  unitless _ := False
  amount g _ _ := amountOf g.2
  payload g _ e := payOf m g.1.1 e g.2
  amount_pos g _ _ _ := by
    cases g.2 with
    | reg s => exact Nat.one_pos
    | dma s => exact N_pos

instance Rd_payload_storable (g : GSem nD τ sig) (r : ℕ) (d : Fin 8) : BI.Storable (upEmb : UEmb _ 𝕄) ((Rd m).payload g r d) := by
  show BI.Storable upEmb (payOf m g.1.1 d g.2)
  unfold payOf barPay recvPay sendPay
  (repeat' split) <;> infer_instance

section Tables
variable (c : Dev nD)

/-- The slot of a send semaphore is its distance, -/
theorem slotOf_send (d : Fin 8) : slotOf (sendS d) = d := by revert d; decide
/-- and that of a receive semaphore. -/
theorem slotOf_recv (d : Fin 8) : slotOf (recvS d) = d := by revert d; decide

/-- In the first round a cell has the duties of its semaphore: -/
theorem duties_first (sm : SemLoc sig) : (Rd m).duties ((c : Thread nD τ), sm) 0 = dutiesOf sm := by
  dsimp only [Rd]; exact if_pos ⟨rfl, rfl⟩
/-- a barrier cell one for each distance away, -/
theorem duties_bar : (Rd m).duties (barC c) 0 = Finset.univ.erase 0 := duties_first m c _
/-- a send cell one, -/
theorem duties_send (d : Fin 8) (hd : d ≠ 0) : (Rd m).duties (sendC c d) 0 = {0} := by
  rw [duties_first]; exact if_pos ⟨Nat.le_add_right _ _, by rw [slotOf_send]; exact hd⟩
/-- a receive cell one. -/
theorem duties_recv (d : Fin 8) (hd : d ≠ 0) : (Rd m).duties (recvC c d) 0 = {0} := by
  rw [duties_first]; exact if_pos ⟨(show 12 ≤ 20 + d.val by omega), by rw [slotOf_recv]; exact hd⟩
/-- A DMA semaphore has a duty just when it is a send or receive semaphore of another distance than zero. -/
theorem dutiesOf_dma (s : DmaSem sig) : dutiesOf (.dma s) = if 12 ≤ s.val ∧ slotOf s ≠ 0 then {0} else ∅ := rfl
/-- The send cell at distance zero is never used, -/
theorem duties_send_zero : (Rd m).duties (sendC c 0) 0 = ∅ := by
  rw [duties_first, dutiesOf_dma]; exact if_neg fun h => h.2 (by decide)
/-- nor the receive cell. -/
theorem duties_recv_zero : (Rd m).duties (recvC c 0) 0 = ∅ := by
  rw [duties_first, dutiesOf_dma]; exact if_neg fun h => h.2 (by decide)
/-- No cell has duties after the first round. -/
theorem duties_later (g : GSem nD τ sig) : ∀ r, 1 ≤ r → (Rd m).duties g r = ∅ := fun r hr => by
  dsimp only [Rd]; exact if_neg fun h => by omega

/-- The barrier's round is seven units, -/
theorem expect_bar : (Rd m).expect (barC c) 0 = 7 := by
  unfold Schedule.expect Schedule.amountOf
  rw [duties_bar]; exact (Finset.sum_const 1).trans (by decide)
/-- a send cell's is a tile's credit, -/
theorem expect_send (d : Fin 8) (hd : d ≠ 0) : (Rd m).expect (sendC c d) 0 = N := by
  unfold Schedule.expect Schedule.amountOf; rw [duties_send m c d hd, Finset.sum_singleton]; rfl
/-- and a receive cell's. -/
theorem expect_recv (d : Fin 8) (hd : d ≠ 0) : (Rd m).expect (recvC c d) 0 = N := by
  unfold Schedule.expect Schedule.amountOf; rw [duties_recv m c d hd, Finset.sum_singleton]; rfl

/-- What each duty hands over: a barrier's duty the slot lent, -/
theorem payload_bar (e : Fin 8) : (Rd m).payload (barC c) 0 e = barPay c e := rfl
/-- a send cell's the slot back, -/
theorem payload_send (d e : Fin 8) : (Rd m).payload (sendC c d) 0 e = sendPay c d := by
  refine (if_neg (show ¬ 20 ≤ 12 + d.val by omega)).trans ?_; rw [slotOf_send]
/-- a receive cell's the tile. -/
theorem payload_recv (d e : Fin 8) : (Rd m).payload (recvC c d) 0 e = recvPay m c d := by
  refine (if_pos (show 20 ≤ 20 + d.val by omega)).trans ?_; rw [slotOf_recv]

/-- The rest of a round, no duty taken. -/
theorem rest_bar : bigSep ((Rd m).duties (barC c) 0 \ ∅) (fun d => (Rd m).payload (barC c) 0 d) = bigSep (Finset.univ.erase 0) (barPay c) := by
  rw [Finset.sdiff_empty, duties_bar]; rfl
/-- The same of a send cell: its one payload, -/
theorem rest_send (d : Fin 8) (hd : d ≠ 0) :
    bigSep ((Rd m).duties (sendC c d) 0 \ ∅) (fun e => (Rd m).payload (sendC c d) 0 e) = sendPay c d := by
  rw [Finset.sdiff_empty, duties_send m c d hd, bigSep_singleton, payload_send]
/-- and of a receive cell. -/
theorem rest_recv (d : Fin 8) (hd : d ≠ 0) :
    bigSep ((Rd m).duties (recvC c d) 0 \ ∅) (fun e => (Rd m).payload (recvC c d) 0 e) = recvPay m c d := by
  rw [Finset.sdiff_empty, duties_recv m c d hd, bigSep_singleton, payload_recv]

end Tables

/-! ## What a device owes, and the levels -/

/-- The tiles that device `c` still owes, for the distances `S`, and the barrier units, for the distances `T`. -/
def owedR (c : Dev nD) (S : Finset (Fin 8)) : CellTallies nD τ sig Unit := ∑ d ∈ S, tallyAt (recvC (c + d) d) () N
def owedB (c : Dev nD) (T : Finset (Fin 8)) : CellTallies nD τ sig Unit := ∑ d ∈ T, tallyAt (barC (c + d)) () 1
/-- The distances at which a device sends: all but its own. -/
abbrev away : Finset (Fin 8) := Finset.univ.erase 0
/-- What device `c` owes at launch. -/
def O₀ (c : Dev nD) : CellTallies nD τ sig Unit := owedR c away + owedB c away

/-- A debt of tiles with one of them taken out, -/
theorem owedR_peel (c : Dev nD) (S : Finset (Fin 8)) (d : Fin 8) (hd : d ∈ S) :
    owedR c S = owedR c (S.erase d) + tallyAt (recvC (c + d) d) () N := (Finset.sum_erase_add S _ hd).symm
/-- and a debt of barrier units. -/
theorem owedB_peel (c : Dev nD) (O : CellTallies nD τ sig Unit) (T : Finset (Fin 8)) (d : Fin 8) (hd : d ∈ T) :
    O + owedB c T = (O + owedB c (T.erase d)) + tallyAt (barC (c + d)) () 1 := by
  unfold owedB; rw [← Finset.sum_erase_add T _ hd, add_assoc]

def L (g : GSem nD τ sig) : Finset Unit := if g.1.2 = .tc then {()} else ∅
/-- A barrier cell at 1, a receive cell at 2, everything else at 0: a device waits below all it owes. -/
def lv (g : GSem nD τ sig) (_ : Unit) : ℕ := match g.2 with
  | .reg _ => 1
  | .dma s => if 20 ≤ s.val then 2 else 0

/-- Only a TensorCore's cells carry the label; -/
theorem L_of_ne (g : GSem nD τ sig) (h : g.1.2 ≠ .tc) : L g = ∅ := if_neg h
/-- each of those does. -/
theorem L_tc (c : Dev nD) (sm : SemLoc sig) : L ((c : Thread nD τ), sm) = {()} := if_pos rfl

/-- A tally at one cell is nonzero at that cell only. -/
theorem tally_pos {g g' : GSem nD τ sig} {k : ℕ} {u u' : Unit} (h : 0 < (tallyAt g u k : CellTallies nD τ sig Unit) g' u') : g' = g := by
  rw [tallyAt_apply] at h; by_contra hn; rw [if_neg fun h' => hn h'.1] at h; exact Nat.lt_irrefl 0 h

/-- A sum of tallies, read at a cell. -/
theorem sum_apply (S : Finset (Fin 8)) (f : Fin 8 → CellTallies nD τ sig Unit) (g : GSem nD τ sig) (u : Unit) :
    (∑ d ∈ S, f d) g u = ∑ d ∈ S, f d g u := by
  rw [Finset.sum_apply, Finsupp.finset_sum_apply]

/-- A sum of tallies at some cells is nonzero at one of those only. -/
theorem sum_tally_pos {S : Finset (Fin 8)} {cell : Fin 8 → GSem nD τ sig} {k : ℕ} {g : GSem nD τ sig} {u u' : Unit}
    (h : 0 < (∑ d ∈ S, tallyAt (cell d) u k : CellTallies nD τ sig Unit) g u') : ∃ d, g = cell d := by
  rw [sum_apply] at h
  obtain ⟨d, -, hd⟩ := Finset.sum_pos_iff.mp h
  exact ⟨d, tally_pos hd⟩

/-- Whatever is owed is owed to a receive cell or to a barrier cell of a device at some distance. -/
theorem owed_pos {c : Dev nD} {S T : Finset (Fin 8)} {g : GSem nD τ sig} {u : Unit} (h : 0 < (owedR c S + owedB c T) g u) :
    (∃ d, g = recvC (c + d) d) ∨ ∃ d, g = barC (c + d) := by
  rw [Pi.add_apply, Finsupp.add_apply] at h
  rcases em (owedR c S g u = 0) with h0 | h0
  · rw [h0, Nat.zero_add] at h; exact .inr (sum_tally_pos h)
  · exact .inl (sum_tally_pos (Nat.pos_of_ne_zero h0))

/-- A receive cell's level is 2, -/
theorem lv_recv (c : Dev nD) (d : Fin 8) (u : Unit) : lv (recvC c d) u = 2 := if_pos (show 20 ≤ 20 + d.val by omega)
/-- a barrier cell's 1. -/
theorem lv_bar (c : Dev nD) (u : Unit) : lv (barC c) u = 1 := rfl

/-- A local copy's semaphore may be waited for under any debt of tiles and barrier units. -/
theorem mayWait_local (c : Dev nD) (q : DmaSem sig) (hq : q.val < 20) (S T : Finset (Fin 8)) :
    (levAts L lv : sProp 𝕄) ⊢ MayWait (c : Thread nD τ) (.dma q) () (owedR c S + owedB c T) :=
  MayOwe.of_cut (L := L) (lev := lv) 0 (fun p hp => by rw [Finset.mem_singleton.mp hp, L_tc]; exact Finset.mem_singleton_self _)
    (fun g u hg => by rcases owed_pos hg with ⟨d, rfl⟩ | ⟨d, rfl⟩ <;> (rw [L_tc]; exact Finset.mem_singleton_self _))
    (fun p hp => by rw [Finset.mem_singleton.mp hp]; exact le_of_eq (if_neg (by omega)))
    (fun g u hg => by rcases owed_pos hg with ⟨d, rfl⟩ | ⟨d, rfl⟩ <;> first | (rw [lv_recv]; decide) | (rw [lv_bar]; decide))

/-- The barrier may be waited for while only tiles are owed. -/
theorem mayWait_bar (c : Dev nD) (S : Finset (Fin 8)) :
    (levAts L lv : sProp 𝕄) ⊢ MayWait (c : Thread nD τ) (.reg barS) () (owedR c S) :=
  MayOwe.of_cut (L := L) (lev := lv) 1 (fun p hp => by rw [Finset.mem_singleton.mp hp, L_tc]; exact Finset.mem_singleton_self _)
    (fun g u hg => by obtain ⟨d, rfl⟩ := sum_tally_pos hg; rw [L_tc]; exact Finset.mem_singleton_self _)
    (fun p hp => by rw [Finset.mem_singleton.mp hp]; exact le_of_eq rfl)
    (fun g u hg => by obtain ⟨d, rfl⟩ := sum_tally_pos hg; rw [lv_recv]; decide)

end Cert.Exchange
-- ==== Proof.Steps.lean ====
/-
# One operation at a time

For each kind of operation of the kernel's body, what it takes and what it leaves, over memory pieces held at values
(`owns`) and at any device, slot and rectangle. The body's proof uses these and nothing finer.
-/
module

public import proofs.«01_k».proof.Proof.Common

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The weakest precondition of a program on device `c`'s core. -/
abbrev run (c : Dev nD) (p : Prog (TpuEff nD τ sig (Elt F) Λ₀ (c : Thread nD τ).2) PUnit) (Q : PUnit → sProp 𝕄) : sProp 𝕄 :=
  wp frame (wpE (defs₀ (F := F)) 𝒱₀ (c : Thread nD τ) none) Set.univ p Q

section
variable (c : Dev nD) {Q : PUnit → sProp (MT nD τ sig Unit (Elt F) ℕ UU ℕ)} {sp sp' : Space} {s s' : Shape} {e : EltTy}

/-- Starting a local copy from a piece at contents `fs`: the flight delivers the destination at what the piece read, and
    the piece back. -/
theorem step_start_raw {src : Memref sig .tc sp s e} {dst : Memref sig .tc sp' s e} {sm : SemLoc sig}
    {hsrc : src.view.WordExact} {hdst : dst.view.WordExact} {hsem : DmaTarget.Typed (nD := nD) (τ := τ) (p := (c : Thread nD τ).2) sp sm (.here dst)}
    {k : PUnit → Prog (TpuEff nD τ sig (Elt F) Λ₀ (c : Thread nD τ).2) PUnit} {fs : Buf (Elt F) (src.view.loc (c : Thread nD τ))}
    (n : ℕ) (hn : dst.view.amount sm = n) (hn0 : 0 < n) :
    iprop((src.view.loc (c : Thread nD τ) ↦[src.view.set]{fullShare} fs) ∗ anyAt (c : Thread nD τ) dst ∗ semVal ((c : Thread nD τ), sm) 0)
      ⊢ iprop((Transfers.Flight EC (c : Thread nD τ) sm () n iprop(owns (c : Thread nD τ) dst fullShare (src.view.read (Elt F) fs)
            ∗ (src.view.loc (c : Thread nD τ) ↦[src.view.set]{fullShare} fs)) -∗ run c (k ⟨⟩) Q)
        -∗ run c (.op (.enqueueDma src (.here dst) sm hsrc hdst hsem) k) Q) := by
  unfold anyAt owns
  iintro ⟨Hs, ⟨%X, %fd, -, Hd⟩, Hv⟩ Hk
  iapply (Transfers.wp_dmaLocal EC 𝒱₀ (c : Thread nD τ) none (fs := fs) (fd := fd) () n hn hn0 (subset_refl _)) $$ [Hs Hd Hv]
  · isplitl [Hs]; · iexact Hs
    isplitl [Hd] <;> iassumption
  iintro Hf
  iapply Hk
  iapply (Transfers.Flight_mono EC (c : Thread nD τ) (D' := iprop((∃ f, ⌜dst.view.read (Elt F) f = src.view.read (Elt F) fs⌝
      ∗ (dst.view.loc (c : Thread nD τ) ↦[dst.view.set]{fullShare} f)) ∗ (src.view.loc (c : Thread nD τ) ↦[src.view.set]{fullShare} fs))) ?_) $$ Hf
  iintro ⟨Hd, Hs⟩
  isplitl [Hd]
  · iexists _
    isplitr; swap; · iexact Hd
    ipureintro; exact View.read_write_univ _ _
  · iexact Hs

/-- The same from a piece held at a value. -/
theorem step_start {src : Memref sig .tc sp s e} {dst : Memref sig .tc sp' s e} {sm : SemLoc sig}
    {hsrc : src.view.WordExact} {hdst : dst.view.WordExact} {hsem : DmaTarget.Typed (nD := nD) (τ := τ) (p := (c : Thread nD τ).2) sp sm (.here dst)}
    {k : PUnit → Prog (TpuEff nD τ sig (Elt F) Λ₀ (c : Thread nD τ).2) PUnit} {X : s.Idx → Elt F e}
    (n : ℕ) (hn : dst.view.amount sm = n) (hn0 : 0 < n) :
    iprop(owns (c : Thread nD τ) src fullShare X ∗ anyAt (c : Thread nD τ) dst ∗ semVal ((c : Thread nD τ), sm) 0)
      ⊢ iprop((Transfers.Flight EC (c : Thread nD τ) sm () n iprop(owns (c : Thread nD τ) dst fullShare X
            ∗ owns (c : Thread nD τ) src fullShare X) -∗ run c (k ⟨⟩) Q)
        -∗ run c (.op (.enqueueDma src (.here dst) sm hsrc hdst hsem) k) Q) := by
  iintro ⟨Hs, Hd, Hv⟩ Hk
  unfold owns
  icases Hs with ⟨%fs, %hX, Hs⟩
  subst hX
  iapply (step_start_raw c n hn hn0) $$ [Hs Hd Hv]
  · isplitl [Hs]; · iexact Hs
    isplitl [Hd] <;> iassumption
  iintro Hf
  iapply Hk
  iapply (Transfers.Flight_mono EC (c : Thread nD τ) ?_) $$ Hf
  iintro ⟨Hd, Hs⟩
  isplitl [Hd]
  · unfold owns; iexact Hd
  · iexists fs
    isplitr; · ipureintro; rfl
    iexact Hs

/-- Waiting for a local copy in flight, owing `O`. -/
theorem step_wait {κ' : Kind} {e' : EltTy} {sem : DmaSem sig} {srcw : Memref sig .tc sp' s' e'} {dstw : Memref sig κ' sp s e}
    {hsrc : srcw.view.WordExact} {hdst : dstw.view.WordExact}
    {k : PUnit → Prog (TpuEff nD τ sig (Elt F) Λ₀ (c : Thread nD τ).2) PUnit} {n : ℕ} (hn : dstw.view.dmaCredit = n) {D : sProp 𝕄}
    {O : CellTallies nD τ sig Unit} :
    iprop(Transfers.Flight EC (c : Thread nD τ) (.dma sem) () n D ∗ (∃ W, owes (c : Thread nD τ) O W) ∗ MayWait (c : Thread nD τ) (.dma sem) () O)
      ⊢ iprop((iprop(D ∗ semVal ((c : Thread nD τ), .dma sem) 0 ∗ (∃ W, owes (c : Thread nD τ) O W)) -∗ run c (k ⟨⟩) Q)
          -∗ run c (.op (.waitDma2 sem srcw dstw hsrc hdst) k) Q) := by
  iintro ⟨Hf, ⟨%W, HO⟩, Hm⟩ Hk
  iapply (Transfers.wp_waitLocalO EC 𝒱₀ (c : Thread nD τ) none () hn (O := O) (W := W)) $$ [Hf HO Hm]
  · isplitl [Hf]; · iexact Hf
    isplitl [HO] <;> iassumption
  iintro ⟨HD, Hv, HO⟩
  iapply Hk
  isplitl [HD]; · iexact HD
  isplitl [Hv]; · iexact Hv
  iexists _; iexact HO

/-- Loading a rectangle of a buffer held, squeezed, at `X`: the vector loaded is `X` in the rectangle's shape. -/
theorem step_load {cs : CoreSpace} {M : Memref sig .tc cs s e} {r : Rect s} {hr : ∀ a, r.stride a = 1} {hq : r.shape.Squeezes s'}
    {hl : M.view.LoadsAt r.toLoadRect}
    {k : (r.shape.Idx → Elt F e) → Prog (TpuEff nD τ sig (Elt F) Λ₀ (c : Thread nD τ).2) PUnit}
    {X : s'.Idx → Elt F e} (hc : r.shape.ShapeCasts s') :
    owns (c : Thread nD τ) ((M.slice r hr).squeeze s' hq) fullShare X
      ⊢ iprop((∀ v, ⌜shapeCast s' v hc = X⌝ -∗ owns (c : Thread nD τ) ((M.slice r hr).squeeze s' hq) fullShare X -∗ run c (k v) Q)
          -∗ run c (.op (.load M r.toLoadRect hl) k) Q) := by
  unfold owns
  iintro ⟨%f, %hX, H⟩ Hk
  have hS : M.view.setOn r.toLoadRect.set ⊆ ((M.slice r hr).squeeze s' hq).view.set := by
    rw [show ((M.slice r hr).squeeze s' hq).view.set = (M.view.slice r).set from View.set_reshape _ _, View.set_slice]; exact subset_refl _
  iapply (wp_load 𝒱₀ (c : Thread nD τ) none Set.univ (f := f) hS) $$ H
  iintro H
  iapply Hk $$ %(M.view.readAt (Elt F) r.toLoadRect f) %hX
  iexists f
  isplitr; · ipureintro; exact hX
  iexact H

/-- Loading a slot whose contents are not used. -/
theorem step_load_any {cs : CoreSpace} {M : Memref sig .tc cs s e} {r : Rect s} {hr : ∀ a, r.stride a = 1} {hq : r.shape.Squeezes s'}
    {hl : M.view.LoadsAt r.toLoadRect}
    {k : (r.shape.Idx → Elt F e) → Prog (TpuEff nD τ sig (Elt F) Λ₀ (c : Thread nD τ).2) PUnit} (hc : r.shape.ShapeCasts s') :
    anyAt (c : Thread nD τ) ((M.slice r hr).squeeze s' hq)
      ⊢ iprop((∀ v, anyAt (c : Thread nD τ) ((M.slice r hr).squeeze s' hq) -∗ run c (k v) Q)
          -∗ run c (.op (.load M r.toLoadRect hl) k) Q) := by
  unfold anyAt
  iintro ⟨%X, H⟩ Hk
  iapply (step_load c hc) $$ H
  iintro %v - H
  iapply Hk
  iexists X; iexact H

/-- Storing over a rectangle of a buffer, held squeezed. -/
theorem step_store {cs : CoreSpace} {M : Memref sig .tc cs s e} {r : Rect s} {hr : ∀ a, r.stride a = 1} {hq : r.shape.Squeezes s'}
    {w : r.shape.Idx → Elt F e} {hx : (M.access r).Stores Finset.univ} {hm : (Finset.univ : Finset r.shape.Idx) = Finset.univ ∨ ∀ a, r.stride a = 1}
    {k : PUnit → Prog (TpuEff nD τ sig (Elt F) Λ₀ (c : Thread nD τ).2) PUnit}
    {X : s'.Idx → Elt F e} (hc : r.shape.ShapeCasts s') (hw : shapeCast s' w hc = X) :
    anyAt (c : Thread nD τ) ((M.slice r hr).squeeze s' hq)
      ⊢ iprop((owns (c : Thread nD τ) ((M.slice r hr).squeeze s' hq) fullShare X -∗ run c (k ⟨⟩) Q)
          -∗ run c (.op (.store M r w Finset.univ hx hm) k) Q) := by
  unfold anyAt owns
  iintro ⟨%X', %f, -, H⟩ Hk
  have hS : (M.access r).setOn Finset.univ ⊆ ((M.slice r hr).squeeze s' hq).view.set := by
    rw [show ((M.slice r hr).squeeze s' hq).view.set = (M.view.slice r).set from View.set_reshape _ _]; exact subset_refl _
  iapply (wp_store 𝒱₀ (c : Thread nD τ) none Set.univ (f := f) hS) $$ H
  iintro H
  iapply Hk
  iexists _
  isplitr; swap; · iexact H
  ipureintro
  rw [← hw]
  show shapeCast s' ((M.access r).read (Elt F) ((M.access r).write (Elt F) f w Finset.univ)) hc = _
  rw [View.read_write_univ]

/-- Loading a whole buffer. -/
theorem step_load_whole {cs : CoreSpace} {M : Memref sig .tc cs s e} {r : Rect s}
    {hl : M.view.LoadsAt r.toLoadRect}
    {k : (r.shape.Idx → Elt F e) → Prog (TpuEff nD τ sig (Elt F) Λ₀ (c : Thread nD τ).2) PUnit} {X : s.Idx → Elt F e} {Y : r.shape.Idx → Elt F e}
    (hY : ∀ f, M.view.read (Elt F) f = X → M.view.readAt (Elt F) r.toLoadRect f = Y) :
    owns (c : Thread nD τ) M fullShare X
      ⊢ iprop((owns (c : Thread nD τ) M fullShare X -∗ run c (k Y) Q) -∗ run c (.op (.load M r.toLoadRect hl) k) Q) := by
  unfold owns
  iintro ⟨%f, %hX, H⟩ Hk
  have hS : M.view.setOn r.toLoadRect.set ⊆ M.view.set := View.setOn_subset_set _ _
  iapply (wp_load 𝒱₀ (c : Thread nD τ) none Set.univ (f := f) hS) $$ H
  iintro H
  rw [hY f hX]
  iapply Hk
  iexists f
  isplitr; · ipureintro; exact hX
  iexact H

end

/-! ## The operations on the shared cells -/

/-- The shared cells of a device: its barrier, then its send and its receive semaphores. -/
def csem (k : Fin 17) : SemLoc sig := if k.val = 0 then .reg barS else .dma (⟨k.val + 11, by omega⟩ : Fin 28)
abbrev kcell (ck : Dev nD × Fin 17) : GSem nD τ sig := ((ck.1 : Thread nD τ), csem ck.2)

def kSend (d : Fin 8) : Fin 17 := ⟨1 + d.val, by omega⟩
def kRecv (d : Fin 8) : Fin 17 := ⟨9 + d.val, by omega⟩

/-- Shared cell 0 is the barrier's; -/
theorem kcell_bar (c : Dev nD) : kcell (c, 0) = barC c := rfl
/-- the semaphore numbered `kSend d` is the send semaphore, -/
theorem csem_send (d : Fin 8) : csem (kSend d) = .dma (sendS d) := by revert d; decide
/-- the one numbered `kRecv d` the receive semaphore, -/
theorem csem_recv (d : Fin 8) : csem (kRecv d) = .dma (recvS d) := by revert d; decide
/-- so these are a device's send cells -/
theorem kcell_send (c : Dev nD) (d : Fin 8) : kcell (c, kSend d) = sendC c d := by unfold kcell; rw [csem_send]
/-- and receive cells. -/
theorem kcell_recv (c : Dev nD) (d : Fin 8) : kcell (c, kRecv d) = recvC c d := by unfold kcell; rw [csem_recv]

variable (m : (ℓ : Loc nD τ sig) → Buf (Elt F) ℓ)

/-- Every shared cell's invariant, at the names `K`, and that its round 0 is reached. -/
def records (K : Dev nD × Fin 17 → ℕ) : sProp 𝕄 :=
  bigSep Finset.univ fun ck => iprop(cellInv ER (Rd m) (K ck) (kcell ck) ∗ reached ER (kcell ck) 0)

instance records_persistent (K : Dev nD × Fin 17 → ℕ) : BI.Persistent (records m K) := by unfold records; infer_instance

/-- The records hold the barrier cells' invariants, -/
theorem rec_bar (K : Dev nD × Fin 17 → ℕ) (c : Dev nD) :
    records m K ⊢ iprop(cellInv ER (Rd m) (K (c, 0)) (barC c) ∗ reached ER (barC c) 0) :=
  bigSep_elim (Finset.mem_univ (c, (0 : Fin 17)))
/-- the send cells', -/
theorem rec_send (K : Dev nD × Fin 17 → ℕ) (c : Dev nD) (d : Fin 8) :
    records m K ⊢ iprop(cellInv ER (Rd m) (K (c, kSend d)) (sendC c d) ∗ reached ER (sendC c d) 0) := by
  rw [← kcell_send]; exact bigSep_elim (Finset.mem_univ (c, kSend d))
/-- and the receive cells'. -/
theorem rec_recv (K : Dev nD × Fin 17 → ℕ) (c : Dev nD) (d : Fin 8) :
    records m K ⊢ iprop(cellInv ER (Rd m) (K (c, kRecv d)) (recvC c d) ∗ reached ER (recvC c d) 0) := by
  rw [← kcell_recv]; exact bigSep_elim (Finset.mem_univ (c, kRecv d))

/-- What device `c` owes while the tiles for `S` and the barrier units for `T` are due. -/
def debt (c : Dev nD) (S T : Finset (Fin 8)) : sProp 𝕄 := iprop(∃ W, owes (c : Thread nD τ) (owedR c S + owedB c T) W)

section
variable (K : Dev nD × Fin 17 → ℕ) (c : Dev nD) {Q : PUnit → sProp (MT nD τ sig Unit (Elt F) ℕ UU ℕ)}

/-- Signalling the barrier of the device at distance `d`: a unit of debt paid, receive slot `-d` lent. -/
theorem step_signal (d : Fin 8) (hd : d ≠ 0) {n : Dev nD} (hn : n = c + d) {S T : Finset (Fin 8)} (hT : d ∈ T) {k' : ℕ} (hk : k' = 1)
    {k : PUnit → Prog (TpuEff nD τ sig (Elt F) Λ₀ (c : Thread nD τ).2) PUnit} :
    iprop(records m K ∗ debt c S T ∗ dutyTok ER (barC (c + d)) 0 (-d) ∗ anyAt (c : Thread nD τ) (recvM (-d)))
      ⊢ iprop((debt c S (T.erase d) -∗ run c (k ⟨⟩) Q) -∗ run c (.op (.semSignal (n : Thread nD τ) barS k') k) Q) := by
  subst hn hk
  unfold debt
  iintro ⟨#Hrec, ⟨%W, HO⟩, Htok, Hslot⟩ Hk
  ihave Hb := (rec_bar m K (c + d)) $$ Hrec
  icases Hb with ⟨#Hinv, #Hr⟩
  ihave Hv := (rec_recv m K c (-d)) $$ Hrec
  icases Hv with ⟨-, #Hr'⟩
  have hmem : -d ∈ (Rd m).duties (barC (c + d)) 0 := by
    rw [duties_bar]; exact Finset.mem_erase.mpr ⟨neg_away hd, Finset.mem_univ _⟩
  iapply (Rounds.wp_signal 𝒱₀ ER (Rd m) (c : Thread nD τ) none (dst := ((c + d : Dev nD) : Thread nD τ)) (sem := barS) (r := 0) (κ := K (c + d, 0)) (d := -d)
    hmem (k' := 1) rfl () (owedR c S + owedB c (T.erase d)) (owedB_peel c (owedR c S) T d hT)) $$ [HO Htok Hslot]
  · isplitr; · iexact Hinv
    isplitl [HO]; · iexact HO
    isplitl [Htok]; · iexact Htok
    isplitl [Hslot]
    · rw [payload_bar]; unfold barPay
      rw [show (c + d + -d : Dev nD) = c from back_neg c d]
      isplitl [Hslot]; · iexact Hslot
      iexact Hr'
    · iexact Hr
  iintro HO
  iapply Hk
  iexists W; iexact HO

/-- Waiting at the barrier for the seven units: the neighbours' slots arrive, and the counter is the device's own again, at zero. -/
theorem step_barrier {S : Finset (Fin 8)} {k' : ℕ} (hk : k' = 7)
    {k : PUnit → Prog (TpuEff nD τ sig (Elt F) Λ₀ (c : Thread nD τ).2) PUnit} :
    iprop(records m K ∗ levAts L lv ∗ debt c S ∅ ∗ cred (tallyAt (barC c) () 7) ∗ atPos ER (barC c) 0 ∅ 0)
      ⊢ iprop((iprop(debt c S ∅ ∗ semVal (barC c) 0 ∗ bigSep away (barPay c)) -∗ run c (k ⟨⟩) Q)
        -∗ run c (.op (.semWait barS k') k) Q) := by
  subst hk
  unfold debt
  rw [show owedR c S + owedB c ∅ = owedR c S from add_zero _]
  iintro ⟨#Hrec, #Hlev, ⟨%W, HO⟩, Hcred, Hpos⟩ Hk
  ihave Hb := (rec_bar m K c) $$ Hrec
  icases Hb with ⟨#Hinv, -⟩
  iapply (Rounds.wp_wait_rest_token 𝒱₀ ER (Rd m) (c : Thread nD τ) none (κ := K (c, 0)) (wpE_semWait_eq 𝒱₀ (c : Thread nD τ) none Set.univ) (Set.mem_univ _) ()
    (O := owedR c S) (W := W) (R := 0) (m := 0) (T := ∅) ((Nat.zero_add 7).trans (expect_bar m c).symm)) $$ [HO Hcred Hpos]
  · isplitr; · iexact Hinv
    isplitl [Hcred]; · iexact Hcred
    isplitl [HO]; · iexact HO
    isplitr; · iapply (mayWait_bar c S) $$ Hlev
    iexact Hpos
  rw [rest_bar]
  iintro ⟨HO, Hpos, -, Hpay⟩
  imod (Rounds.cell_close ER (Rd m) (Set.mem_univ (K (c, 0))) (fun h => h) (R := 0 + 1) (duties_later m (barC c))) $$ [Hpos] with Hz
  · isplitr; · iexact Hinv
    iexact Hpos
  iapply Hk
  isplitl [HO]; · iexists _; iexact HO
  isplitl [Hz] <;> iassumption

/-- Sending slot `d` to the device at distance `d`: the slot leaves until the send semaphore is waited for, the tile's debt is paid. -/
theorem step_send (d : Fin 8) (hd : d ≠ 0) {n : Dev nD} (hn : n = c + d) {S : Finset (Fin 8)} (hS : d ∈ S)
    {src dst : Memref sig .tc .vmem S256x256 .bf16} (hN : dst.view.amount (.dma (recvS d)) = N)
    (hp₁ : anyAt (F := F) (c : Thread nD τ) src ⊢ sendPay c d)
    (hp₂ : owns ((c + d : Dev nD) : Thread nD τ) dst fullShare (tile m c (c + d)) ⊢ recvPay m (c + d) d)
    {hsc : (dst : Memref sig ((n : Dev nD) : Thread nD τ).2.kind .vmem S256x256 .bf16).view.ref.isScScratch = false}
    {hsrc : src.view.WordExact} {hdst : dst.view.WordExact}
    {hsem : DmaTarget.Typed (τ := τ) (p := (c : Thread nD τ).2) .vmem (.dma (recvS d)) (.remote (n : Thread nD τ) dst (.dma (sendS d)) hsc)}
    {k : PUnit → Prog (TpuEff nD τ sig (Elt F) Λ₀ (c : Thread nD τ).2) PUnit} :
    iprop(records m K ∗ debt c S ∅ ∗ owns (c : Thread nD τ) src fullShare (tile m c (c + d)) ∗ anyAt ((c + d : Dev nD) : Thread nD τ) dst
        ∗ dutyTok ER (sendC c d) 0 0 ∗ dutyTok ER (recvC (c + d) d) 0 0)
      ⊢ iprop((iprop(debt c (S.erase d) ∅ ∗ cred (tallyAt (sendC c d) () N)) -∗ run c (k ⟨⟩) Q)
        -∗ run c (.op (.enqueueDma src (.remote (n : Thread nD τ) dst (.dma (sendS d)) hsc) (.dma (recvS d)) hsrc hdst hsem) k) Q) := by
  subst hn
  unfold anyAt owns at *
  unfold debt
  rw [show owedR c S + owedB c ∅ = owedR c S from add_zero _, show owedR c (S.erase d) + owedB c ∅ = owedR c (S.erase d) from add_zero _]
  iintro ⟨#Hrec, ⟨%W, HO⟩, ⟨%fs, %hfs, Hs⟩, ⟨%X, %fd, -, Hd⟩, Ht1, Ht2⟩ Hk
  ihave Hb := (rec_send m K c d) $$ Hrec
  icases Hb with ⟨#Hinv, #Hr⟩
  ihave Hv := (rec_recv m K (c + d) d) $$ Hrec
  icases Hv with ⟨#Hinv', #Hr'⟩
  iapply (Rounds.wp_send_pointsTo 𝒱₀ ER (Rd m) (c : Thread nD τ) none (κ₁ := K (c, kSend d)) (κ₂ := K (c + d, kRecv d)) (r₁ := 0) (r₂ := 0) (d₁ := 0) (d₂ := 0) (fs := fs) (fd := fd)
    (by rw [duties_send m c d hd]; exact Finset.mem_singleton_self _) (by rw [duties_recv m (c + d) d hd]; exact Finset.mem_singleton_self _)
    () () N hN rfl rfl (owedR c (S.erase d)) (owedR_peel c S d hS)
    (by
      rw [payload_send]; refine BIBase.Entails.trans ?_ hp₁
      iintro H; iexists _, fs
      isplitr; · ipureintro; rfl
      iexact H)
    (by
      rw [payload_recv]; refine BIBase.Entails.trans ?_ hp₂
      iintro H; iexists _
      isplitr; swap; · iexact H
      ipureintro
      rw [View.read_write_univ, hfs])) $$ [HO Hs Hd Ht1 Ht2]
  · isplitr; · iexact Hinv
    isplitr; · iexact Hinv'
    isplitl [Hs]; · iexact Hs
    isplitl [Hd]; · iexact Hd
    isplitl [HO]; · iexact HO
    isplitl [Ht1]; · iexact Ht1
    isplitr; · iexact Hr
    isplitl [Ht2]; · iexact Ht2
    iexact Hr'
  iintro ⟨Hc, HO⟩
  iapply Hk
  isplitl [HO]; · iexists W; iexact HO
  iexact Hc

/-- The payloads that a copy at distance `d` leaves. -/
theorem sendPay_intro (d : Fin 8) : anyAt (F := F) (c : Thread nD τ) (sendM d) ⊢ sendPay c d := Entails.refl _
/-- A landed tile in its receive slot is what the receive cell's duty hands over. -/
theorem recvPay_intro (d : Fin 8) :
    owns ((c + d : Dev nD) : Thread nD τ) (recvM d) fullShare (tile m c (c + d)) ⊢ recvPay m (c + d) d := by
  unfold recvPay; rw [back_sub]

/-- Waiting for the tile that arrives at distance `d`, owing nothing: the slot, holding it, and the counter at zero. -/
theorem step_recv (d : Fin 8) (hd : d ≠ 0) {sp' : Space} {s' : Shape} {e' : EltTy} {κ' : Kind} {srcw : Memref sig .tc sp' s' e'}
    {sp : Space} {s : Shape} {e : EltTy} {dstw : Memref sig κ' sp s e}
    {hsrc : srcw.view.WordExact} {hdst : dstw.view.WordExact} (hN : dstw.view.dmaCredit = N)
    {k : PUnit → Prog (TpuEff nD τ sig (Elt F) Λ₀ (c : Thread nD τ).2) PUnit} :
    iprop(records m K ∗ debt c ∅ ∅ ∗ cred (tallyAt (recvC c d) () N) ∗ atPos ER (recvC c d) 0 ∅ 0)
      ⊢ iprop((iprop(debt c ∅ ∅ ∗ semVal (recvC c d) 0 ∗ recvPay m c d) -∗ run c (k ⟨⟩) Q)
        -∗ run c (.op (.waitDma2 (recvS d) srcw dstw hsrc hdst) k) Q) := by
  unfold debt
  rw [show owedR c ∅ + owedB c ∅ = 0 from add_zero _]
  iintro ⟨#Hrec, ⟨%W, HO⟩, Hcred, Hpos⟩ Hk
  ihave Hb := (rec_recv m K c d) $$ Hrec
  icases Hb with ⟨#Hinv, -⟩
  iapply (Rounds.wp_wait_rest_token 𝒱₀ ER (Rd m) (c : Thread nD τ) none (κ := K (c, kRecv d)) (wpE_waitDma2_eq 𝒱₀ (c : Thread nD τ) none Set.univ) (Set.mem_univ _) ()
    (O := 0) (W := W) (R := 0) (m := 0) (T := ∅) ((Nat.zero_add _).trans (hN.trans (expect_recv m c d hd).symm))) $$ [HO Hcred Hpos]
  · isplitr; · iexact Hinv
    isplitl [Hcred]; · rw [hN]; iexact Hcred
    isplitl [HO]; · iexact HO
    isplitr; · rw [MayWait_zero]; iempintro
    iexact Hpos
  rw [rest_recv m c d hd]
  iintro ⟨HO, Hpos, -, Hpay⟩
  imod (Rounds.cell_close ER (Rd m) (Set.mem_univ (K (c, kRecv d))) (fun h => h) (R := 0 + 1) (duties_later m (recvC c d))) $$ [Hpos] with Hz
  · isplitr; · iexact Hinv
    iexact Hpos
  iapply Hk
  isplitl [HO]; · iexists _; iexact HO
  isplitl [Hz] <;> iassumption

/-- Waiting for the own copy at distance `d` to have left: the send slot back, and the counter at zero. -/
theorem step_sent (d : Fin 8) (hd : d ≠ 0) {sp' : Space} {s' : Shape} {e' : EltTy} {κ' : Kind} {srcw : Memref sig .tc sp' s' e'}
    {sp : Space} {s : Shape} {e : EltTy} {dstw : Memref sig κ' sp s e}
    {hsrc : srcw.view.WordExact} {hdst : dstw.view.WordExact} (hN : dstw.view.dmaCredit = N)
    {k : PUnit → Prog (TpuEff nD τ sig (Elt F) Λ₀ (c : Thread nD τ).2) PUnit} :
    iprop(records m K ∗ debt c ∅ ∅ ∗ cred (tallyAt (sendC c d) () N) ∗ atPos ER (sendC c d) 0 ∅ 0)
      ⊢ iprop((iprop(debt c ∅ ∅ ∗ semVal (sendC c d) 0 ∗ sendPay c d) -∗ run c (k ⟨⟩) Q)
        -∗ run c (.op (.waitDma2 (sendS d) srcw dstw hsrc hdst) k) Q) := by
  unfold debt
  rw [show owedR c ∅ + owedB c ∅ = 0 from add_zero _]
  iintro ⟨#Hrec, ⟨%W, HO⟩, Hcred, Hpos⟩ Hk
  ihave Hb := (rec_send m K c d) $$ Hrec
  icases Hb with ⟨#Hinv, -⟩
  iapply (Rounds.wp_wait_rest_token 𝒱₀ ER (Rd m) (c : Thread nD τ) none (κ := K (c, kSend d)) (wpE_waitDma2_eq 𝒱₀ (c : Thread nD τ) none Set.univ) (Set.mem_univ _) ()
    (O := 0) (W := W) (R := 0) (m := 0) (T := ∅) ((Nat.zero_add _).trans (hN.trans (expect_send m c d hd).symm))) $$ [HO Hcred Hpos]
  · isplitr; · iexact Hinv
    isplitl [Hcred]; · rw [hN]; iexact Hcred
    isplitl [HO]; · iexact HO
    isplitr; · rw [MayWait_zero]; iempintro
    iexact Hpos
  rw [rest_send m c d hd]
  iintro ⟨HO, Hpos, -, Hpay⟩
  imod (Rounds.cell_close ER (Rd m) (Set.mem_univ (K (c, kSend d))) (fun h => h) (R := 0 + 1) (duties_later m (sendC c d))) $$ [Hpos] with Hz
  · isplitr; · iexact Hinv
    iexact Hpos
  iapply Hk
  isplitl [HO]; · iexists _; iexact HO
  isplitl [Hz] <;> iassumption

/-- Closing an unused shared cell (distance 0): its counter, at zero. -/
theorem close_zero_send : iprop(records m K ∗ atPos ER (sendC c 0) 0 ∅ 0) ⊢ (|={Set.univ}=> semVal (sendC c 0) 0 : sProp 𝕄) := by
  iintro ⟨#Hrec, Hpos⟩
  ihave Hb := (rec_send m K c 0) $$ Hrec
  icases Hb with ⟨#Hinv, -⟩
  iapply (Rounds.cell_close ER (Rd m) (Set.mem_univ (K (c, kSend 0))) (fun h => h) (R := 0)
    (fun r _ => by rcases Nat.eq_zero_or_pos r with rfl | h; exacts [duties_send_zero m c, duties_later m _ r h]))
  isplitr; · iexact Hinv
  iexact Hpos
/-- The receive cell that is never used has its counter at zero. -/
theorem close_zero_recv : iprop(records m K ∗ atPos ER (recvC c 0) 0 ∅ 0) ⊢ (|={Set.univ}=> semVal (recvC c 0) 0 : sProp 𝕄) := by
  iintro ⟨#Hrec, Hpos⟩
  ihave Hb := (rec_recv m K c 0) $$ Hrec
  icases Hb with ⟨#Hinv, -⟩
  iapply (Rounds.cell_close ER (Rd m) (Set.mem_univ (K (c, kRecv 0))) (fun h => h) (R := 0)
    (fun r _ => by rcases Nat.eq_zero_or_pos r with rfl | h; exacts [duties_recv_zero m c, duties_later m _ r h]))
  isplitr; · iexact Hinv
  iexact Hpos

end

end Cert.Exchange
-- ==== Proof.Blocks.lean ====
/-
# The two repeated stretches of the body

At a distance `d ≠ 0` the body first computes and sends a tile (`send_block`: wait for the column block, multiply, activate,
round, store in the send slot, start the copy), and later takes in the tile that arrives (`recv_block`: wait, widen, store in the
staging slot, start the copy into the result's rows). Each is proved once for every distance; the body's proof uses each seven times.
-/
module

public import proofs.«01_k».proof.Proof.Steps

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The credits of the local copies: the rows `x`, a column block, a tile of the result. -/
def NX : ℕ := xBuf.view.dmaCredit
def NW : ℕ := (wslotM 0).view.dmaCredit
def NO : ℕ := (orowM 0).view.dmaCredit
/-- A copy into a column-block slot credits that slot's size. -/
theorem credit_w (s : Fin 3) : (wslotM s).view.dmaCredit = NW := rfl
/-- A copy into a row block of the result credits that block's size. -/
theorem credit_o (d : Fin 8) : (orowM d).view.dmaCredit = NO := rfl
/-- The credit of the left operand's rows is positive, -/
theorem NX_pos : 0 < NX := View.dmaCredit_pos _ (by decide)
/-- of a column block too, -/
theorem NW_pos : 0 < NW := View.dmaCredit_pos _ (by decide)
/-- and of a row block of the result. -/
theorem NO_pos : 0 < NO := View.dmaCredit_pos _ (by decide)

/-- Device `c`'s column block `k` as launched. -/
def wPts (c : Dev nD) (k : Fin 8) : sProp 𝕄 :=
  (wcolM k).view.loc (c : Thread nD τ) ↦[(wcolM k).view.set]{fullShare} m ((c : Thread nD τ).loc main_arg1)

/-- A column block under way into weight slot `s`. -/
def wFlight (c : Dev nD) (s : Fin 3) (k : Fin 8) : sProp 𝕄 :=
  Transfers.Flight EC (c : Thread nD τ) (.dma (wS s)) () NW iprop(owns (c : Thread nD τ) (wslotM s) fullShare (wv m c k) ∗ wPts m c k)

/-- The tile from distance `d` under way from staging slot `d` into its rows of the result. -/
def oFlight (c : Dev nD) (d : Fin 8) : sProp 𝕄 :=
  Transfers.Flight EC (c : Thread nD τ) (.dma (outS d)) () NO
    iprop(owns (c : Thread nD τ) (orowM (c - d)) fullShare (outv m c d) ∗ owns (c : Thread nD τ) (stageM d) fullShare (outv m c d))

abbrev xR : Rect S256x2048 := Rect.unit (s := S256x2048) ![0, 0] S256x2048.size inb_S256x2048_S256x2048_0_0

/-- The two spellings of the offset zero. -/
theorem off_zero : (![0, 0] : Fin 2 → Nat) = fun _ => 0 := funext fun a => by fin_cases a <;> rfl
/-- A load of the whole row buffer reads what the buffer holds. -/
theorem read_x (X : FVec F S256x2048 .f32) (f : (cc0_scratch0 : Ref sig .tc).ty.Contents (Elt F)) (h : xBuf.view.read (Elt F) f = X) :
    xBuf.view.readAt (Elt F) xR.toLoadRect f = X :=
  (Memref.readAt_unit_zero (Elt F) cc0_scratch0 off_zero _ f).trans h

section
variable (K : Dev nD × Fin 17 → ℕ) (c : Dev nD) {Q : PUnit → sProp (MT nD τ sig Unit (Elt F) ℕ UU ℕ)}

/-- Starting the copy of column block `k` into weight slot `s`. -/
theorem start_w (s : Fin 3) (k : Fin 8) {src : Memref sig .tc .hbm S2048x256 .f32} (hs : src = wcolM k)
    {hsrc : src.view.WordExact} {hdst : (wslotM s).view.WordExact}
    {hsem : DmaTarget.Typed (nD := nD) (τ := τ) (p := (c : Thread nD τ).2) .hbm (.dma (wS s)) (.here (wslotM s))}
    {p : PUnit → Prog (TpuEff nD τ sig (Elt F) Λ₀ (c : Thread nD τ).2) PUnit} :
    iprop(wPts m c k ∗ anyAt (c : Thread nD τ) (wslotM s) ∗ semVal ((c : Thread nD τ), .dma (wS s)) 0)
      ⊢ iprop((wFlight m c s k -∗ run c (p ⟨⟩) Q)
        -∗ run c (.op (.enqueueDma src (.here (wslotM s)) (.dma (wS s)) hsrc hdst hsem) p) Q) := by
  subst hs
  unfold wFlight wPts
  exact step_start_raw c NW rfl NW_pos

/-- Computing the tile for distance `d` and sending it. -/
theorem send_block (d : Fin 8) (hd : d ≠ 0) (s : Fin 3) {n : Dev nD} (hn : n = c + d) {S : Finset (Fin 8)} (hS : d ∈ S)
    {wsrc : Memref sig .tc .hbm S2048x256 .f32} {h₁ : wsrc.view.WordExact} {h₂ : (wslotM s).view.WordExact}
    {h₃ : xBuf.view.LoadsAt xR.toLoadRect} {h₄ : wBuf.view.LoadsAt (wslotR s).toLoadRect} {h₅ : sendBuf.view.LoadsAt (slotR d).toLoadRect}
    {f : Vec F S256x2048 .f32 → Vec F S1x2048x256 .f32 → FVec F S1x256x256 .bf16}
    (hf : ∀ x w, shapeCast S256x256 (f x w) shapeCasts_S1x256x256_S256x256 = chunk x (shapeCast S2048x256 w shapeCasts_S1x2048x256_S2048x256))
    {h₆ : (sendBuf.access (slotR d)).Stores Finset.univ} {h₇ : (Finset.univ : Finset (slotR d).shape.Idx) = Finset.univ ∨ ∀ a, (slotR d).stride a = 1}
    {hsc : (recvM d : Memref sig ((n : Dev nD) : Thread nD τ).2.kind .vmem S256x256 .bf16).view.ref.isScScratch = false}
    {hsrc : (sendM d).view.WordExact} {hdst : (recvM d).view.WordExact}
    {hsem : DmaTarget.Typed (τ := τ) (p := (c : Thread nD τ).2) .vmem (.dma (recvS d)) (.remote (n : Thread nD τ) (recvM d) (.dma (sendS d)) hsc)}
    {p : PUnit → Prog (TpuEff nD τ sig (Elt F) Λ₀ (c : Thread nD τ).2) PUnit} :
    iprop(records m K ∗ levAts L lv ∗ debt c S ∅ ∗ wFlight m c s (c + d) ∗ owns (c : Thread nD τ) xBuf fullShare (xv m c)
        ∗ anyAt (c : Thread nD τ) (sendM d) ∗ anyAt ((c + d : Dev nD) : Thread nD τ) (recvM d)
        ∗ dutyTok ER (sendC c d) 0 0 ∗ dutyTok ER (recvC (c + d) d) 0 0)
      ⊢ iprop((iprop(debt c (S.erase d) ∅ ∗ owns (c : Thread nD τ) xBuf fullShare (xv m c) ∗ wPts m c (c + d) ∗ anyAt (c : Thread nD τ) (wslotM s)
            ∗ semVal ((c : Thread nD τ), .dma (wS s)) 0 ∗ cred (tallyAt (sendC c d) () N)) -∗ run c (p ⟨⟩) Q)
        -∗ run c (.op (.waitDma2 (wS s) wsrc (wslotM s) h₁ h₂) fun _ => .op (.load xBuf xR.toLoadRect h₃) fun x =>
            .op (.load wBuf (wslotR s).toLoadRect h₄) fun w => .op (.load sendBuf (slotR d).toLoadRect h₅) fun _ =>
            .op (.store sendBuf (slotR d) (f x w) Finset.univ h₆ h₇) fun _ =>
            .op (.enqueueDma (sendM d) (.remote (n : Thread nD τ) (recvM d) (.dma (sendS d)) hsc) (.dma (recvS d)) hsrc hdst hsem) p) Q) := by
  iintro ⟨#Hrec, #Hlev, Hdebt, Hw, Hx, Hsend, Hrecv, Ht1, Ht2⟩ Hk
  unfold debt wFlight
  iapply (step_wait c (credit_w s) (O := owedR c S + owedB c ∅)) $$ [Hdebt Hw]
  · isplitl [Hw]; · iexact Hw
    isplitl [Hdebt]; · iexact Hdebt
    iapply (mayWait_local c (wS s) (by show 1 + s.val < 20; omega) S ∅) $$ Hlev
  iintro ⟨⟨Hw, Hcol⟩, Hsem, Hdebt⟩
  iapply (step_load_whole c (read_x (xv m c))) $$ Hx
  iintro Hx
  iapply (step_load c (hr := fun _ => rfl) (hq := squeezes_S1x2048x256_S2048x256) shapeCasts_S1x2048x256_S2048x256 (X := wv m c (c + d))) $$ Hw
  iintro %w %hw Hw
  iapply (step_load_any c (hr := fun _ => rfl) (hq := squeezes_S1x256x256_S256x256) shapeCasts_S1x256x256_S256x256) $$ Hsend
  iintro %v Hsend
  iapply (step_store c (X := tile m c (c + d)) (hr := fun _ => rfl) (hq := squeezes_S1x256x256_S256x256) shapeCasts_S1x256x256_S256x256
    (by rw [hf, hw]; unfold tile; rfl)) $$ Hsend
  iintro Hsend
  iapply (step_send m K c d hd hn hS (src := sendM d) (dst := recvM d) (credit_recv d) (sendPay_intro c d) (recvPay_intro m c d)) $$ [Hdebt Hsend Hrecv Ht1 Ht2]
  · unfold debt
    isplitr; · iexact Hrec
    isplitl [Hdebt]; · iexact Hdebt
    isplitl [Hsend]; · iexact Hsend
    isplitl [Hrecv]; · iexact Hrecv
    isplitl [Ht1] <;> iassumption
  unfold debt
  iintro ⟨Hdebt, Hcred⟩
  iapply Hk
  isplitl [Hdebt]; · iexact Hdebt
  isplitl [Hx]; · iexact Hx
  isplitl [Hcol]; · iexact Hcol
  isplitl [Hw]; · unfold anyAt; iexists _; iexact Hw
  isplitl [Hsem] <;> iassumption

/-- Starting the copy of staging slot `d` into the rows of the result that it is for. -/
theorem start_out (d : Fin 8) {dst : Memref sig .tc .hbm S256x256 .f32} (ho : dst = orowM (c - d))
    {hsrc : (stageM d).view.WordExact} {hdst : dst.view.WordExact}
    {hsem : DmaTarget.Typed (nD := nD) (τ := τ) (p := (c : Thread nD τ).2) .vmem (.dma (outS d)) (.here dst)}
    {p : PUnit → Prog (TpuEff nD τ sig (Elt F) Λ₀ (c : Thread nD τ).2) PUnit} :
    iprop(owns (c : Thread nD τ) (stageM d) fullShare (outv m c d) ∗ anyAt (c : Thread nD τ) (orowM (c - d)) ∗ semVal ((c : Thread nD τ), .dma (outS d)) 0)
      ⊢ iprop((oFlight m c d -∗ run c (p ⟨⟩) Q)
        -∗ run c (.op (.enqueueDma (stageM d) (.here dst) (.dma (outS d)) hsrc hdst hsem) p) Q) := by
  subst ho
  unfold oFlight
  exact step_start c NO rfl NO_pos

/-- Taking in the tile from distance `d`. -/
theorem recv_block (d : Fin 8) (hd : d ≠ 0) {dst : Memref sig .tc .hbm S256x256 .f32} (ho : dst = orowM (c - d))
    {sp' : Space} {s' : Shape} {e' : EltTy} {rsrc : Memref sig .tc sp' s' e'} {h₁ : rsrc.view.WordExact} {h₂ : (recvM d).view.WordExact}
    {h₃ : recvBuf.view.LoadsAt (slotR d).toLoadRect} {h₄ : stageBuf.view.LoadsAt (slotR d).toLoadRect}
    {f : Vec F S1x256x256 .bf16 → FVec F S1x256x256 .f32}
    (hf : ∀ v, shapeCast S256x256 (f v) shapeCasts_S1x256x256_S256x256
      = extf .f32 (shapeCast S256x256 v shapeCasts_S1x256x256_S256x256 : FVec F S256x256 .bf16) bitsLt_bf16_f32)
    {h₆ : (stageBuf.access (slotR d)).Stores Finset.univ} {h₇ : (Finset.univ : Finset (slotR d).shape.Idx) = Finset.univ ∨ ∀ a, (slotR d).stride a = 1}
    {hsrc : (stageM d).view.WordExact} {hdst : dst.view.WordExact}
    {hsem : DmaTarget.Typed (nD := nD) (τ := τ) (p := (c : Thread nD τ).2) .vmem (.dma (outS d)) (.here dst)}
    {p : PUnit → Prog (TpuEff nD τ sig (Elt F) Λ₀ (c : Thread nD τ).2) PUnit} :
    iprop(records m K ∗ debt c ∅ ∅ ∗ cred (tallyAt (recvC c d) () N) ∗ atPos ER (recvC c d) 0 ∅ 0
        ∗ anyAt (c : Thread nD τ) (stageM d) ∗ anyAt (c : Thread nD τ) (orowM (c - d)) ∗ semVal ((c : Thread nD τ), .dma (outS d)) 0)
      ⊢ iprop((iprop(debt c ∅ ∅ ∗ semVal (recvC c d) 0 ∗ recvPay m c d ∗ oFlight m c d) -∗ run c (p ⟨⟩) Q)
        -∗ run c (.op (.waitDma2 (recvS d) rsrc (recvM d) h₁ h₂) fun _ => .op (.load recvBuf (slotR d).toLoadRect h₃) fun v =>
            .op (.load stageBuf (slotR d).toLoadRect h₄) fun _ => .op (.store stageBuf (slotR d) (f v) Finset.univ h₆ h₇) fun _ =>
            .op (.enqueueDma (stageM d) (.here dst) (.dma (outS d)) hsrc hdst hsem) p) Q) := by
  iintro ⟨#Hrec, Hdebt, Hcred, Hpos, Hstage, Hrow, Hsem⟩ Hk
  iapply (step_recv m K c d hd (credit_recv d)) $$ [Hdebt Hcred Hpos]
  · isplitr; · iexact Hrec
    isplitl [Hdebt]; · iexact Hdebt
    isplitl [Hcred] <;> iassumption
  unfold recvPay
  iintro ⟨Hdebt, Hz, Hrecv⟩
  iapply (step_load c (hr := fun _ => rfl) (hq := squeezes_S1x256x256_S256x256) shapeCasts_S1x256x256_S256x256 (X := tile m (c - d) c)) $$ Hrecv
  iintro %v %hv Hrecv
  iapply (step_load_any c (hr := fun _ => rfl) (hq := squeezes_S1x256x256_S256x256) shapeCasts_S1x256x256_S256x256) $$ Hstage
  iintro %v' Hstage
  iapply (step_store c (X := outv m c d) (hr := fun _ => rfl) (hq := squeezes_S1x256x256_S256x256) shapeCasts_S1x256x256_S256x256
    (by rw [hf, hv]; unfold outv; rw [if_neg hd])) $$ Hstage
  iintro Hstage
  iapply (start_out m c d ho) $$ [Hstage Hrow Hsem]
  · isplitl [Hstage]; · iexact Hstage
    isplitl [Hrow] <;> iassumption
  iintro Hfl
  iapply Hk
  isplitl [Hdebt]; · iexact Hdebt
  isplitl [Hz]; · iexact Hz
  isplitl [Hrecv] <;> iassumption

/-- Waiting for the copy out of staging slot `d`. -/
theorem out_wait (d : Fin 8) {wsrc : Memref sig .tc .vmem S256x256 .f32} {dst : Memref sig .tc .hbm S256x256 .f32} (hN : dst.view.dmaCredit = NO)
    {h₁ : wsrc.view.WordExact} {h₂ : dst.view.WordExact}
    {p : PUnit → Prog (TpuEff nD τ sig (Elt F) Λ₀ (c : Thread nD τ).2) PUnit} :
    iprop(levAts L lv ∗ debt c ∅ ∅ ∗ oFlight m c d)
      ⊢ iprop((iprop(debt c ∅ ∅ ∗ owns (c : Thread nD τ) (orowM (c - d)) fullShare (outv m c d) ∗ anyAt (c : Thread nD τ) (stageM d)
            ∗ semVal ((c : Thread nD τ), .dma (outS d)) 0) -∗ run c (p ⟨⟩) Q)
        -∗ run c (.op (.waitDma2 (outS d) wsrc dst h₁ h₂) p) Q) := by
  iintro ⟨#Hlev, Hdebt, Hf⟩ Hk
  unfold debt oFlight
  iapply (step_wait c (n := NO) hN (O := owedR c ∅ + owedB c ∅)) $$ [Hdebt Hf]
  · isplitl [Hf]; · iexact Hf
    isplitl [Hdebt]; · iexact Hdebt
    iapply (mayWait_local c (outS d) (by show 4 + d.val < 20; omega) ∅ ∅) $$ Hlev
  iintro ⟨⟨Hrow, Hst⟩, Hsem, Hdebt⟩
  iapply Hk
  isplitl [Hdebt]; · iexact Hdebt
  isplitl [Hrow]; · iexact Hrow
  isplitl [Hst]; · unfold anyAt; iexists _; iexact Hst
  iexact Hsem

end

end Cert.Exchange
-- ==== Proof.States.lean ====
/-
# The body's states

What a device holds between two stretches of the body, as one assertion with the sets of distances still to do, and the
stretches as steps from state to state.
-/
module

public import proofs.«01_k».proof.Proof.Blocks

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## A resource for every distance, changed one distance at a time -/

/-- One distance, or one more, of a separating conjunction. -/
theorem peel {S : Finset (Fin 8)} {d : Fin 8} (hd : d ∈ S) (A : Fin 8 → sProp 𝕄) : bigSep S A = iprop(A d ∗ bigSep (S.erase d) A) := bigSep_erase hd
/-- One member put back into a family. -/
theorem unpeel {S : Finset (Fin 8)} {d : Fin 8} (hd : d ∉ S) (A : Fin 8 → sProp 𝕄) : bigSep (insert d S) A = iprop(A d ∗ bigSep S A) := bigSep_insert hd

/-- `A` for the distances of `S`, `B` for the other distances of `U`. -/
def moving (A B : Fin 8 → sProp 𝕄) (U S : Finset (Fin 8)) : sProp 𝕄 := iprop(bigSep S A ∗ bigSep (U \ S) B)

/-- At the start nothing has been turned from `A` into `B`; -/
theorem moving_start (A B : Fin 8 → sProp 𝕄) (U : Finset (Fin 8)) : bigSep U A ⊢ moving A B U U := by
  unfold moving
  rw [Finset.sdiff_self, bigSep_empty]
  iintro H
  isplitl [H]; · iexact H
  iempintro

/-- one at a time is taken as `A` and given back as `B`; -/
theorem moving_take (A B : Fin 8 → sProp 𝕄) {U S : Finset (Fin 8)} {d : Fin 8} (hd : d ∈ S) (hU : d ∈ U) :
    moving A B U S ⊢ iprop(A d ∗ (B d -∗ moving A B U (S.erase d))) := by
  unfold moving
  rw [peel hd, Finset.sdiff_erase hU, unpeel (by simp [hd])]
  iintro ⟨⟨Ha, HA⟩, HB⟩
  isplitl [Ha]; · iexact Ha
  iintro Hb
  isplitl [HA]; · iexact HA
  isplitl [Hb] <;> iassumption

/-- at the end all are `B`. -/
theorem moving_end (A B : Fin 8 → sProp 𝕄) (U : Finset (Fin 8)) {S : Finset (Fin 8)} (hS : S = ∅) : moving A B U S ⊢ bigSep U B := by
  subst hS
  unfold moving
  rw [Finset.sdiff_empty]
  iintro ⟨-, H⟩
  iexact H

section
variable (K : Dev nD × Fin 17 → ℕ) (c : Dev nD) {Q : PUnit → sProp (MT nD τ sig Unit (Elt F) ℕ UU ℕ)}

/-! ## Signalling the neighbours -/

/-- To signal at distance `d`: the unit's duty on the neighbour's barrier, and the receive slot to lend. -/
def toSignal (c : Dev nD) (d : Fin 8) : sProp 𝕄 := iprop(dutyTok ER (barC (c + d)) 0 (-d) ∗ anyAt (c : Thread nD τ) (recvM (-d)))

/-- The neighbours at the distances of `T` are still to be signalled. -/
def signalling (T : Finset (Fin 8)) : sProp 𝕄 :=
  iprop(records m K ∗ debt c away T ∗ moving (toSignal c) (fun _ => iprop(emp)) away T)

/-- One signal: to the device at distance `d`, whose unit is owed no more. -/
theorem signal_turn (d : Fin 8) {n : Dev nD} (hn : n = c + d) {T : Finset (Fin 8)} (hd : d ≠ 0) (hT : d ∈ T) {k' : ℕ} (hk : k' = 1)
    {k : PUnit → Prog (TpuEff nD τ sig (Elt F) Λ₀ (c : Thread nD τ).2) PUnit} :
    signalling m K c T
      ⊢ iprop((signalling m K c (T.erase d) -∗ run c (k ⟨⟩) Q) -∗ run c (.op (.semSignal (n : Thread nD τ) barS k') k) Q) := by
  unfold signalling
  iintro ⟨#Hrec, Hdebt, Hm⟩ Hk
  ihave H := (moving_take (toSignal c) (fun _ => iprop(emp)) hT (Finset.mem_erase.mpr ⟨hd, Finset.mem_univ _⟩)) $$ Hm
  unfold toSignal
  icases H with ⟨⟨Ht, Hr⟩, Hm⟩
  iapply (step_signal m K c d hd hn hT hk) $$ [Hdebt Ht Hr]
  · isplitr; · iexact Hrec
    isplitl [Hdebt]; · iexact Hdebt
    isplitl [Ht] <;> iassumption
  iintro Hdebt
  iapply Hk
  isplitr; · iexact Hrec
  isplitl [Hdebt]; · iexact Hdebt
  iapply Hm
  iempintro

/-! ## Sending -/

/-- A weight slot with nothing under way. -/
def wFree (c : Dev nD) (s : Fin 3) : sProp 𝕄 := iprop(anyAt (c : Thread nD τ) (wslotM s) ∗ semVal ((c : Thread nD τ), .dma (wS s)) 0)

/-- To send at distance `d`: the own send slot, the neighbour's receive slot and the two duties. -/
def toSend (c : Dev nD) (d : Fin 8) : sProp 𝕄 :=
  iprop(anyAt (c : Thread nD τ) (sendM d) ∗ anyAt ((c + d : Dev nD) : Thread nD τ) (recvM d)
    ∗ dutyTok ER (sendC c d) 0 0 ∗ dutyTok ER (recvC (c + d) d) 0 0)
/-- Sent at distance `d`: the right to wait for the send slot. -/
def sent (c : Dev nD) (d : Fin 8) : sProp 𝕄 := cred (tallyAt (sendC c d) () N)

/-- The column blocks for the distances of `T`, as launched. -/
def cols (c : Dev nD) (T : Finset (Fin 8)) : sProp 𝕄 := bigSep T fun d => wPts m c (c + d)

/-- Starting a column block's copy takes its columns and a free slot. -/
theorem cols_start (s : Fin 3) (d : Fin 8) {T : Finset (Fin 8)} (hd : d ∈ T) {src : Memref sig .tc .hbm S2048x256 .f32} (hs : src = wcolM (c + d))
    {hsrc : src.view.WordExact} {hdst : (wslotM s).view.WordExact}
    {hsem : DmaTarget.Typed (nD := nD) (τ := τ) (p := (c : Thread nD τ).2) .hbm (.dma (wS s)) (.here (wslotM s))}
    {p : PUnit → Prog (TpuEff nD τ sig (Elt F) Λ₀ (c : Thread nD τ).2) PUnit} :
    iprop(cols m c T ∗ wFree c s)
      ⊢ iprop((iprop(cols m c (T.erase d) ∗ wFlight m c s (c + d)) -∗ run c (p ⟨⟩) Q)
        -∗ run c (.op (.enqueueDma src (.here (wslotM s)) (.dma (wS s)) hsrc hdst hsem) p) Q) := by
  unfold cols wFree
  rw [peel hd]
  iintro ⟨⟨Hc, HT⟩, Hs, Hv⟩ Hk
  iapply (start_w m c s (c + d) hs) $$ [Hc Hs Hv]
  · isplitl [Hc]; · iexact Hc
    isplitl [Hs] <;> iassumption
  iintro Hf
  iapply Hk
  isplitl [HT] <;> iassumption

/-- The distances of `S` are still to be sent to; the columns for `T` are home. -/
def computing (S T : Finset (Fin 8)) : sProp 𝕄 :=
  iprop(records m K ∗ levAts L lv ∗ debt c S ∅ ∗ owns (c : Thread nD τ) xBuf fullShare (xv m c) ∗ moving (toSend c) (sent c) away S ∗ cols m c T)

/-- The same, and the columns for `e₀` and `e₁` are under way into slots `s₀` and `s₁`; slot `s₂` is free. -/
def sending (S T : Finset (Fin 8)) (s₀ : Fin 3) (e₀ : Fin 8) (s₁ : Fin 3) (e₁ : Fin 8) (s₂ : Fin 3) : sProp 𝕄 :=
  iprop(computing m K c S T ∗ wFlight m c s₀ (c + e₀) ∗ wFlight m c s₁ (c + e₁) ∗ wFree c s₂)

/-- Computing and sending the tile whose columns come first, with nothing started: its slot becomes free. -/
theorem send_last (d : Fin 8) (s₀ : Fin 3) {n : Dev nD} (hn : n = c + d) {S T : Finset (Fin 8)} (hd : d ≠ 0) (hS : d ∈ S) (hT : d ∉ T)
    {wsrc : Memref sig .tc .hbm S2048x256 .f32} {h₁ : wsrc.view.WordExact} {h₂ : (wslotM s₀).view.WordExact}
    {h₃ : xBuf.view.LoadsAt xR.toLoadRect} {h₄ : wBuf.view.LoadsAt (wslotR s₀).toLoadRect} {h₅ : sendBuf.view.LoadsAt (slotR d).toLoadRect}
    {f : Vec F S256x2048 .f32 → Vec F S1x2048x256 .f32 → FVec F S1x256x256 .bf16}
    (hf : ∀ x w, shapeCast S256x256 (f x w) shapeCasts_S1x256x256_S256x256 = chunk x (shapeCast S2048x256 w shapeCasts_S1x2048x256_S2048x256))
    {h₆ : (sendBuf.access (slotR d)).Stores Finset.univ} {h₇ : (Finset.univ : Finset (slotR d).shape.Idx) = Finset.univ ∨ ∀ a, (slotR d).stride a = 1}
    {hsc : (recvM d : Memref sig ((n : Dev nD) : Thread nD τ).2.kind .vmem S256x256 .bf16).view.ref.isScScratch = false}
    {hsrc : (sendM d).view.WordExact} {hdst : (recvM d).view.WordExact}
    {hsem : DmaTarget.Typed (τ := τ) (p := (c : Thread nD τ).2) .vmem (.dma (recvS d)) (.remote (n : Thread nD τ) (recvM d) (.dma (sendS d)) hsc)}
    {p : PUnit → Prog (TpuEff nD τ sig (Elt F) Λ₀ (c : Thread nD τ).2) PUnit} :
    iprop(computing m K c S T ∗ wFlight m c s₀ (c + d))
      ⊢ iprop((iprop(computing m K c (S.erase d) (insert d T) ∗ wFree c s₀) -∗ run c (p ⟨⟩) Q)
        -∗ run c (.op (.waitDma2 (wS s₀) wsrc (wslotM s₀) h₁ h₂) fun _ => .op (.load xBuf xR.toLoadRect h₃) fun x =>
            .op (.load wBuf (wslotR s₀).toLoadRect h₄) fun w => .op (.load sendBuf (slotR d).toLoadRect h₅) fun _ =>
            .op (.store sendBuf (slotR d) (f x w) Finset.univ h₆ h₇) fun _ =>
            .op (.enqueueDma (sendM d) (.remote (n : Thread nD τ) (recvM d) (.dma (sendS d)) hsc) (.dma (recvS d)) hsrc hdst hsem) p) Q) := by
  unfold computing
  iintro ⟨⟨#Hrec, #Hlev, Hdebt, Hx, Hm, Hcols⟩, Hw₀⟩ Hk
  ihave H := (moving_take (toSend c) (sent c) hS (Finset.mem_erase.mpr ⟨hd, Finset.mem_univ _⟩)) $$ Hm
  unfold toSend
  icases H with ⟨⟨Hs, Hr, Ht1, Ht2⟩, Hm⟩
  iapply (send_block m K c d hd s₀ hn hS hf) $$ [Hdebt Hw₀ Hx Hs Hr Ht1 Ht2]
  · isplitr; · iexact Hrec
    isplitr; · iexact Hlev
    isplitl [Hdebt]; · iexact Hdebt
    isplitl [Hw₀]; · iexact Hw₀
    isplitl [Hx]; · iexact Hx
    isplitl [Hs]; · iexact Hs
    isplitl [Hr]; · iexact Hr
    isplitl [Ht1] <;> iassumption
  iintro ⟨Hdebt, Hx, Hcol, Hslot, Hsem, Hcred⟩
  iapply Hk
  isplitr [Hslot Hsem]
  · isplitr; · iexact Hrec
    isplitr; · iexact Hlev
    isplitl [Hdebt]; · iexact Hdebt
    isplitl [Hx]; · iexact Hx
    isplitl [Hm Hcred]
    · iapply Hm; unfold sent; iexact Hcred
    unfold cols; rw [unpeel hT]
    isplitl [Hcol] <;> iassumption
  unfold wFree
  isplitl [Hslot] <;> iassumption

/-- Starting the columns for `e'` into the free slot, then computing and sending the tile whose columns come first. -/
theorem send_turn (d : Fin 8) (s₀ s₁ s₂ : Fin 3) (e e' : Fin 8) {n : Dev nD} (hn : n = c + d) {S T : Finset (Fin 8)} (he : e' ∈ T) (hd : d ≠ 0) (hS : d ∈ S)
    (hT : d ∉ T.erase e')
    {src : Memref sig .tc .hbm S2048x256 .f32} (hs : src = wcolM (c + e')) {g₁ : src.view.WordExact} {g₂ : (wslotM s₂).view.WordExact}
    {g₃ : DmaTarget.Typed (nD := nD) (τ := τ) (p := (c : Thread nD τ).2) .hbm (.dma (wS s₂)) (.here (wslotM s₂))}
    {wsrc : Memref sig .tc .hbm S2048x256 .f32} {h₁ : wsrc.view.WordExact} {h₂ : (wslotM s₀).view.WordExact}
    {h₃ : xBuf.view.LoadsAt xR.toLoadRect} {h₄ : wBuf.view.LoadsAt (wslotR s₀).toLoadRect} {h₅ : sendBuf.view.LoadsAt (slotR d).toLoadRect}
    {f : Vec F S256x2048 .f32 → Vec F S1x2048x256 .f32 → FVec F S1x256x256 .bf16}
    (hf : ∀ x w, shapeCast S256x256 (f x w) shapeCasts_S1x256x256_S256x256 = chunk x (shapeCast S2048x256 w shapeCasts_S1x2048x256_S2048x256))
    {h₆ : (sendBuf.access (slotR d)).Stores Finset.univ} {h₇ : (Finset.univ : Finset (slotR d).shape.Idx) = Finset.univ ∨ ∀ a, (slotR d).stride a = 1}
    {hsc : (recvM d : Memref sig ((n : Dev nD) : Thread nD τ).2.kind .vmem S256x256 .bf16).view.ref.isScScratch = false}
    {hsrc : (sendM d).view.WordExact} {hdst : (recvM d).view.WordExact}
    {hsem : DmaTarget.Typed (τ := τ) (p := (c : Thread nD τ).2) .vmem (.dma (recvS d)) (.remote (n : Thread nD τ) (recvM d) (.dma (sendS d)) hsc)}
    {p : PUnit → Prog (TpuEff nD τ sig (Elt F) Λ₀ (c : Thread nD τ).2) PUnit} :
    sending m K c S T s₀ d s₁ e s₂
      ⊢ iprop((sending m K c (S.erase d) (insert d (T.erase e')) s₁ e s₂ e' s₀ -∗ run c (p ⟨⟩) Q)
        -∗ run c (.op (.enqueueDma src (.here (wslotM s₂)) (.dma (wS s₂)) g₁ g₂ g₃) fun _ =>
            .op (.waitDma2 (wS s₀) wsrc (wslotM s₀) h₁ h₂) fun _ => .op (.load xBuf xR.toLoadRect h₃) fun x =>
            .op (.load wBuf (wslotR s₀).toLoadRect h₄) fun w => .op (.load sendBuf (slotR d).toLoadRect h₅) fun _ =>
            .op (.store sendBuf (slotR d) (f x w) Finset.univ h₆ h₇) fun _ =>
            .op (.enqueueDma (sendM d) (.remote (n : Thread nD τ) (recvM d) (.dma (sendS d)) hsc) (.dma (recvS d)) hsrc hdst hsem) p) Q) := by
  unfold sending
  conv_lhs => unfold computing
  iintro ⟨⟨#Hrec, #Hlev, Hdebt, Hx, Hm, Hcols⟩, Hw₀, Hw₁, Hfree⟩ Hk
  iapply (cols_start m c s₂ e' he hs) $$ [Hcols Hfree]
  · isplitl [Hcols] <;> iassumption
  iintro ⟨Hcols, Hw₂⟩
  iapply (send_last m K c d s₀ hn hd hS hT hf) $$ [Hdebt Hx Hm Hcols Hw₀]
  · isplitr [Hw₀]; swap; · iexact Hw₀
    unfold computing
    isplitr; · iexact Hrec
    isplitr; · iexact Hlev
    isplitl [Hdebt]; · iexact Hdebt
    isplitl [Hx]; · iexact Hx
    isplitl [Hm] <;> iassumption
  iintro ⟨Hc, Hfree⟩
  iapply Hk
  isplitl [Hc]; · iexact Hc
  isplitl [Hw₁]; · iexact Hw₁
  isplitl [Hw₂] <;> iassumption

/-- Computing the own tile, at distance 0, into staging slot 0, and starting its copy into the result. -/
theorem own_tile (s₀ : Fin 3) {S T : Finset (Fin 8)} (hT : 0 ∉ T) {dst : Memref sig .tc .hbm S256x256 .f32} (ho : dst = orowM (c - 0))
    {wsrc : Memref sig .tc .hbm S2048x256 .f32} {h₁ : wsrc.view.WordExact} {h₂ : (wslotM s₀).view.WordExact}
    {h₃ : xBuf.view.LoadsAt xR.toLoadRect} {h₄ : wBuf.view.LoadsAt (wslotR s₀).toLoadRect} {h₅ : stageBuf.view.LoadsAt (slotR 0).toLoadRect}
    {f : Vec F S256x2048 .f32 → Vec F S1x2048x256 .f32 → FVec F S1x256x256 .f32}
    (hf : ∀ x w, shapeCast S256x256 (f x w) shapeCasts_S1x256x256_S256x256 = act x (shapeCast S2048x256 w shapeCasts_S1x2048x256_S2048x256))
    {h₆ : (stageBuf.access (slotR 0)).Stores Finset.univ} {h₇ : (Finset.univ : Finset (slotR 0).shape.Idx) = Finset.univ ∨ ∀ a, (slotR 0).stride a = 1}
    {hsrc : (stageM 0).view.WordExact} {hdst : dst.view.WordExact}
    {hsem : DmaTarget.Typed (nD := nD) (τ := τ) (p := (c : Thread nD τ).2) .vmem (.dma (outS 0)) (.here dst)}
    {p : PUnit → Prog (TpuEff nD τ sig (Elt F) Λ₀ (c : Thread nD τ).2) PUnit} :
    iprop(computing m K c S T ∗ wFlight m c s₀ (c + 0) ∗ anyAt (c : Thread nD τ) (stageM 0) ∗ anyAt (c : Thread nD τ) (orowM (c - 0))
        ∗ semVal ((c : Thread nD τ), .dma (outS 0)) 0)
      ⊢ iprop((iprop(computing m K c S (insert 0 T) ∗ wFree c s₀ ∗ oFlight m c 0) -∗ run c (p ⟨⟩) Q)
        -∗ run c (.op (.waitDma2 (wS s₀) wsrc (wslotM s₀) h₁ h₂) fun _ => .op (.load xBuf xR.toLoadRect h₃) fun x =>
            .op (.load wBuf (wslotR s₀).toLoadRect h₄) fun w => .op (.load stageBuf (slotR 0).toLoadRect h₅) fun _ =>
            .op (.store stageBuf (slotR 0) (f x w) Finset.univ h₆ h₇) fun _ =>
            .op (.enqueueDma (stageM 0) (.here dst) (.dma (outS 0)) hsrc hdst hsem) p) Q) := by
  unfold computing debt
  iintro ⟨⟨#Hrec, #Hlev, Hdebt, Hx, Hm, Hcols⟩, Hw, Hstage, Hrow, Hsem⟩ Hk
  unfold wFlight
  iapply (step_wait c (credit_w s₀) (O := owedR c S + owedB c ∅)) $$ [Hdebt Hw]
  · isplitl [Hw]; · iexact Hw
    isplitl [Hdebt]; · iexact Hdebt
    iapply (mayWait_local c (wS s₀) (by show 1 + s₀.val < 20; omega) S ∅) $$ Hlev
  iintro ⟨⟨Hw, Hcol⟩, Hfree, Hdebt⟩
  iapply (step_load_whole c (read_x (xv m c))) $$ Hx
  iintro Hx
  iapply (step_load c (hr := fun _ => rfl) (hq := squeezes_S1x2048x256_S2048x256) shapeCasts_S1x2048x256_S2048x256 (X := wv m c (c + 0))) $$ Hw
  iintro %w %hw Hw
  iapply (step_load_any c (hr := fun _ => rfl) (hq := squeezes_S1x256x256_S256x256) shapeCasts_S1x256x256_S256x256) $$ Hstage
  iintro %v Hstage
  iapply (step_store c (X := outv m c 0) (hr := fun _ => rfl) (hq := squeezes_S1x256x256_S256x256) shapeCasts_S1x256x256_S256x256
    (by rw [hf, hw]; unfold outv; rw [if_pos rfl, back_zero c])) $$ Hstage
  iintro Hstage
  iapply (start_out m c 0 ho) $$ [Hstage Hrow Hsem]
  · isplitl [Hstage]; · iexact Hstage
    isplitl [Hrow] <;> iassumption
  iintro Hfl
  iapply Hk
  isplitr [Hw Hfree Hfl]
  · isplitr; · iexact Hrec
    isplitr; · iexact Hlev
    isplitl [Hdebt]; · iexact Hdebt
    isplitl [Hx]; · iexact Hx
    isplitl [Hm]; · iexact Hm
    unfold cols; rw [unpeel hT]
    isplitl [Hcol] <;> iassumption
  isplitl [Hw Hfree]
  · unfold wFree anyAt
    isplitl [Hw]; · iexists _; iexact Hw
    iexact Hfree
  iexact Hfl

/-! ## Taking in the tiles -/

/-- To take in the tile from distance `d`. -/
def toRecv (c : Dev nD) (d : Fin 8) : sProp 𝕄 :=
  iprop(cred (tallyAt (recvC c d) () N) ∗ atPos ER (recvC c d) 0 ∅ 0 ∗ anyAt (c : Thread nD τ) (stageM d) ∗ anyAt (c : Thread nD τ) (orowM (c - d))
    ∗ semVal ((c : Thread nD τ), .dma (outS d)) 0)
def received (c : Dev nD) (d : Fin 8) : sProp 𝕄 := iprop(semVal (recvC c d) 0 ∗ recvPay m c d ∗ oFlight m c d)

/-- The tiles from the distances of `S` are still to be taken in. -/
def receiving (S : Finset (Fin 8)) : sProp 𝕄 := iprop(records m K ∗ debt c ∅ ∅ ∗ moving (toRecv c) (received m c) away S)

/-- One receive: the tile is waited for, widened into its staging slot, and its copy out is started. -/
theorem recv_turn (d : Fin 8) {S : Finset (Fin 8)} (hd : d ≠ 0) (hS : d ∈ S) {dst : Memref sig .tc .hbm S256x256 .f32} (ho : dst = orowM (c - d))
    {sp' : Space} {s' : Shape} {e' : EltTy} {rsrc : Memref sig .tc sp' s' e'} {h₁ : rsrc.view.WordExact} {h₂ : (recvM d).view.WordExact}
    {h₃ : recvBuf.view.LoadsAt (slotR d).toLoadRect} {h₄ : stageBuf.view.LoadsAt (slotR d).toLoadRect}
    {f : Vec F S1x256x256 .bf16 → FVec F S1x256x256 .f32}
    (hf : ∀ v, shapeCast S256x256 (f v) shapeCasts_S1x256x256_S256x256
      = extf .f32 (shapeCast S256x256 v shapeCasts_S1x256x256_S256x256 : FVec F S256x256 .bf16) bitsLt_bf16_f32)
    {h₆ : (stageBuf.access (slotR d)).Stores Finset.univ} {h₇ : (Finset.univ : Finset (slotR d).shape.Idx) = Finset.univ ∨ ∀ a, (slotR d).stride a = 1}
    {hsrc : (stageM d).view.WordExact} {hdst : dst.view.WordExact}
    {hsem : DmaTarget.Typed (nD := nD) (τ := τ) (p := (c : Thread nD τ).2) .vmem (.dma (outS d)) (.here dst)}
    {p : PUnit → Prog (TpuEff nD τ sig (Elt F) Λ₀ (c : Thread nD τ).2) PUnit} :
    receiving m K c S
      ⊢ iprop((receiving m K c (S.erase d) -∗ run c (p ⟨⟩) Q)
        -∗ run c (.op (.waitDma2 (recvS d) rsrc (recvM d) h₁ h₂) fun _ => .op (.load recvBuf (slotR d).toLoadRect h₃) fun v =>
            .op (.load stageBuf (slotR d).toLoadRect h₄) fun _ => .op (.store stageBuf (slotR d) (f v) Finset.univ h₆ h₇) fun _ =>
            .op (.enqueueDma (stageM d) (.here dst) (.dma (outS d)) hsrc hdst hsem) p) Q) := by
  unfold receiving
  iintro ⟨#Hrec, Hdebt, Hm⟩ Hk
  ihave H := (moving_take (toRecv c) (received m c) hS (Finset.mem_erase.mpr ⟨hd, Finset.mem_univ _⟩)) $$ Hm
  unfold toRecv
  icases H with ⟨⟨Hcred, Hpos, Hstage, Hrow, Hsem⟩, Hm⟩
  iapply (recv_block m K c d hd ho hf) $$ [Hdebt Hcred Hpos Hstage Hrow Hsem]
  · isplitr; · iexact Hrec
    isplitl [Hdebt]; · iexact Hdebt
    isplitl [Hcred]; · iexact Hcred
    isplitl [Hpos]; · iexact Hpos
    isplitl [Hstage]; · iexact Hstage
    isplitl [Hrow] <;> iassumption
  iintro ⟨Hdebt, H⟩
  iapply Hk
  isplitr; · iexact Hrec
  isplitl [Hdebt]; · iexact Hdebt
  iapply Hm
  unfold received
  iexact H

/-! ## The copies out -/

/-- To wait for the own copy at distance `d`, and what that gives back. -/
def toDrain (c : Dev nD) (d : Fin 8) : sProp 𝕄 := iprop(cred (tallyAt (sendC c d) () N) ∗ atPos ER (sendC c d) 0 ∅ 0)
def drained (c : Dev nD) (d : Fin 8) : sProp 𝕄 := iprop(semVal (sendC c d) 0 ∗ anyAt (c : Thread nD τ) (sendM d))

/-- The own copies to the distances of `S` are still to be waited for. -/
def draining (S : Finset (Fin 8)) : sProp 𝕄 := iprop(records m K ∗ debt c ∅ ∅ ∗ moving (toDrain c) (drained c) away S)

/-- One wait for a send to have left its slot. -/
theorem drain_turn (d : Fin 8) {S : Finset (Fin 8)} (hd : d ≠ 0) (hS : d ∈ S) {sp' : Space} {s' : Shape} {e' : EltTy} {κ' : Kind}
    {srcw : Memref sig .tc sp' s' e'} {sp : Space} {s : Shape} {e : EltTy} {dstw : Memref sig κ' sp s e}
    {hsrc : srcw.view.WordExact} {hdst : dstw.view.WordExact} (hN : dstw.view.dmaCredit = N)
    {k : PUnit → Prog (TpuEff nD τ sig (Elt F) Λ₀ (c : Thread nD τ).2) PUnit} :
    draining m K c S
      ⊢ iprop((draining m K c (S.erase d) -∗ run c (k ⟨⟩) Q) -∗ run c (.op (.waitDma2 (sendS d) srcw dstw hsrc hdst) k) Q) := by
  unfold draining
  iintro ⟨#Hrec, Hdebt, Hm⟩ Hk
  ihave H := (moving_take (toDrain c) (drained c) hS (Finset.mem_erase.mpr ⟨hd, Finset.mem_univ _⟩)) $$ Hm
  unfold toDrain
  icases H with ⟨⟨Hcred, Hpos⟩, Hm⟩
  iapply (step_sent m K c d hd hN) $$ [Hdebt Hcred Hpos]
  · isplitr; · iexact Hrec
    isplitl [Hdebt]; · iexact Hdebt
    isplitl [Hcred] <;> iassumption
  iintro ⟨Hdebt, H⟩
  iapply Hk
  isplitr; · iexact Hrec
  isplitl [Hdebt]; · iexact Hdebt
  iapply Hm
  unfold drained sendPay
  iexact H

/-- The row block from distance `d` is written. -/
def stored (c : Dev nD) (d : Fin 8) : sProp 𝕄 :=
  iprop(owns (c : Thread nD τ) (orowM (c - d)) fullShare (outv m c d) ∗ anyAt (c : Thread nD τ) (stageM d) ∗ semVal ((c : Thread nD τ), .dma (outS d)) 0)

/-- The copies into the result from the distances of `S` are still to be waited for. -/
def storing (S : Finset (Fin 8)) : sProp 𝕄 := iprop(levAts L lv ∗ debt c ∅ ∅ ∗ moving (oFlight m c) (stored m c) Finset.univ S)

/-- One wait for a row block to have reached the result. -/
theorem store_turn (d : Fin 8) {S : Finset (Fin 8)} (hS : d ∈ S)
    {wsrc : Memref sig .tc .vmem S256x256 .f32} {dst : Memref sig .tc .hbm S256x256 .f32} (hN : dst.view.dmaCredit = NO)
    {h₁ : wsrc.view.WordExact} {h₂ : dst.view.WordExact}
    {p : PUnit → Prog (TpuEff nD τ sig (Elt F) Λ₀ (c : Thread nD τ).2) PUnit} :
    storing m c S
      ⊢ iprop((storing m c (S.erase d) -∗ run c (p ⟨⟩) Q) -∗ run c (.op (.waitDma2 (outS d) wsrc dst h₁ h₂) p) Q) := by
  unfold storing
  iintro ⟨#Hlev, Hdebt, Hm⟩ Hk
  ihave H := (moving_take (oFlight m c) (stored m c) hS (Finset.mem_univ d)) $$ Hm
  icases H with ⟨Hf, Hm⟩
  iapply (out_wait m c d hN) $$ [Hdebt Hf]
  · isplitr; · iexact Hlev
    isplitl [Hdebt] <;> iassumption
  iintro ⟨Hdebt, H⟩
  iapply Hk
  isplitr; · iexact Hlev
  isplitl [Hdebt]; · iexact Hdebt
  iapply Hm
  unfold stored
  iexact H

end

end Cert.Exchange
-- ==== Proof.Payloads.lean ====
/-
# What the body stores
-/
module

public import proofs.«01_k».proof.Proof.States
public import Idealize.ShloMosaic.Lib.Pipeline.Value

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A tile put in a slot's shape and read back. -/
theorem cast_back {α : Type} (v : S256x256.Idx → α) :
    shapeCast S256x256 (shapeCast S1x256x256 v shapeCasts_S256x256_S1x256x256) shapeCasts_S1x256x256_S256x256 = v :=
  shapeCast_shapeCast _ _ _

/-- A payload of rows and a column block that is the rounded tile, in a slot's shape. -/
abbrev Sends (f : Vec F S256x2048 .f32 → Vec F S1x2048x256 .f32 → FVec F S1x256x256 .bf16) : Prop :=
  ∀ x w, shapeCast S256x256 (f x w) shapeCasts_S1x256x256_S256x256 = chunk x (shapeCast S2048x256 w shapeCasts_S1x2048x256_S2048x256)
/-- The payload as it reads with its parts written out. The printed payloads below are all this one. -/
theorem sends_tile : Sends (F := F) fun x w => shapeCast S1x256x256 (chunk x (shapeCast S2048x256 w shapeCasts_S1x2048x256_S2048x256)) shapeCasts_S256x256_S1x256x256 :=
  fun _ _ => cast_back _
/-- The first send's payload, -/
theorem sends_pay2 : Sends (F := F) fun x w => k0_pay2 (k0_pay1 x w) := sends_tile
/-- the second's, -/
theorem sends_pay5 : Sends (F := F) fun x w => k0_pay5 (k0_pay3 x w) (k0_pay4 x w) := sends_tile
/-- the third's, -/
theorem sends_pay6 : Sends (F := F) fun x w => k0_pay6 x w := sends_tile
/-- the fourth's, -/
theorem sends_pay7 : Sends (F := F) fun x w => k0_pay7 x w := sends_tile
/-- the fifth's, -/
theorem sends_pay8 : Sends (F := F) fun x w => k0_pay8 x w := sends_tile
/-- the sixth's, -/
theorem sends_pay9 : Sends (F := F) fun x w => k0_pay9 x w := sends_tile
/-- the seventh's. -/
theorem sends_pay10 : Sends (F := F) fun x w => k0_pay10 x w := sends_tile
/-- The own tile's payload: not rounded. -/
theorem own_pay11 (x : Vec F S256x2048 .f32) (w : Vec F S1x2048x256 .f32) :
    shapeCast S256x256 (k0_pay11 (F := F) x w) shapeCasts_S1x256x256_S256x256 = act (F := F) x (shapeCast S2048x256 w shapeCasts_S1x2048x256_S2048x256) := by
  unfold k0_pay11; exact cast_back _

/-- A payload of an arrived slot that is the tile widened, in a slot's shape. -/
abbrev Widens (f : Vec F S1x256x256 .bf16 → FVec F S1x256x256 .f32) : Prop :=
  ∀ v, shapeCast S256x256 (f v) shapeCasts_S1x256x256_S256x256
    = extf .f32 (shapeCast S256x256 v shapeCasts_S1x256x256_S256x256 : FVec F S256x256 .bf16) bitsLt_bf16_f32
/-- The widening as it reads with its parts written out. The printed ones below are all this one. -/
theorem widens_tile : Widens (F := F) fun v => shapeCast S1x256x256
    (extf .f32 (shapeCast S256x256 v shapeCasts_S1x256x256_S256x256 : FVec F S256x256 .bf16) bitsLt_bf16_f32) shapeCasts_S256x256_S1x256x256 :=
  fun _ => cast_back _
/-- The first received tile's, -/
theorem widens_pay12 : Widens (F := F) fun v => k0_pay12 v := widens_tile
/-- the second's, -/
theorem widens_pay14 : Widens (F := F) fun v => k0_pay14 (k0_pay13 v) := widens_tile
/-- the third's, -/
theorem widens_pay15 : Widens (F := F) fun v => k0_pay15 v := widens_tile
/-- the fourth's, -/
theorem widens_pay16 : Widens (F := F) fun v => k0_pay16 v := widens_tile
/-- the fifth's, -/
theorem widens_pay17 : Widens (F := F) fun v => k0_pay17 v := widens_tile
/-- the sixth's, -/
theorem widens_pay18 : Widens (F := F) fun v => k0_pay18 v := widens_tile
/-- the seventh's. -/
theorem widens_pay19 : Widens (F := F) fun v => k0_pay19 v := widens_tile

end Cert.Exchange
-- ==== Proof.Ends.lean ====
/-
# The two ends of the body

What a device holds before and after the body, how the pieces are dealt out to the states in between, and the program's own
names for the pieces.
-/
module

public import proofs.«01_k».proof.Proof.Payloads
public import proofs.«01_k».proof.Proof.Gen.KernelIdeal.Points

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section
variable (K : Dev nD × Fin 17 → ℕ) (c : Dev nD)

/-! ## The program's own names for the pieces -/

/-- The columns that the body names with a distance are the column block of the device that far away. -/
theorem off_col (r : Fin 7) : k0_off1 c (BitVec.ofNat 32 (1 + r.val)) = ![0, 256 * (c + r.succ : Fin 8).val] := by
  rw [k0_off1_eq]
  exact congrArg (fun k => ![0, 256 * k]) (by revert c r; decide)
/-- The printed offset of a device's own column block, -/
theorem off_own : k0_off2 c = ![0, 256 * (c + 0 : Fin 8).val] := by
  rw [k0_off2_eq]
  exact congrArg (fun k => ![0, 256 * k]) (by revert c; decide)
/-- The rows that the body names with a distance are the row block of the device that far back. -/
theorem off_row (r : Fin 7) : k0_off4 c (BitVec.ofNat 32 (1 + r.val)) = ![256 * (c - r.succ : Fin 8).val, 0] := by
  rw [k0_off4_eq]
  exact congrArg (fun k => ![256 * k, 0]) (by revert c r; decide)
/-- The printed offset of its own row block. -/
theorem off_ownrow : k0_off3 c = ![256 * (c - 0 : Fin 8).val, 0] := by
  rw [k0_off3_eq]
  exact congrArg (fun k => ![256 * k, 0]) (by revert c; decide)

/-- A slice at a printed column offset is the column block that starts there. -/
theorem col_slice {o : Fin 2 → Nat} {k : Fin 8} (ho : o = ![0, 256 * k.val]) {hb : ∀ a, o a + S2048x256.size a ≤ S2048x2048.size a}
    {hr : ∀ a, (Rect.unit (s := S2048x2048) o S2048x256.size hb).stride a = 1} :
    wHbm.slice (Rect.unit (s := S2048x2048) o S2048x256.size hb) hr = wcolM k := by subst ho; rfl
/-- A slice at a printed row offset is the row block that starts there. -/
theorem row_slice {o : Fin 2 → Nat} {k : Fin 8} (ho : o = ![256 * k.val, 0]) {hb : ∀ a, o a + S256x256.size a ≤ S2048x256.size a}
    {hr : ∀ a, (Rect.unit (s := S2048x256) o S256x256.size hb).stride a = 1} :
    oHbm.slice (Rect.unit (s := S2048x256) o S256x256.size hb) hr = orowM k := by subst ho; rfl

/-- A copy into such a row block credits its size. -/
theorem credit_row {o : Fin 2 → Nat} {hb : ∀ a, o a + S256x256.size a ≤ S2048x256.size a}
    {hr : ∀ a, (Rect.unit (s := S2048x256) o S256x256.size hb).stride a = 1} :
    (oHbm.slice (Rect.unit (s := S2048x256) o S256x256.size hb) hr).view.dmaCredit = NO := rfl

/-- A device number in closed form is the device that far away. -/
theorem dev_at (d : Fin 8) {k : Nat} {h : k < nD} (hk : k = (c.val + d.val) % 8) : (⟨k, h⟩ : Dev nD) = c + d := by
  subst hk; revert c d; decide

/-! ## Before and after -/

/-- What device `c` holds when the body starts. -/
def before : sProp 𝕄 :=
  iprop(records m K ∗ levAts L lv ∗ debt c away away ∗ cred (tallyAt (barC c) () 7) ∗ atPos ER (barC c) 0 ∅ 0
    ∗ (bigSep away fun d => dutyTok ER (barC (c + d)) 0 (-d)) ∗ (bigSep away fun d => dutyTok ER (sendC c d) 0 0)
    ∗ (bigSep away fun d => dutyTok ER (recvC (c + d) d) 0 0) ∗ (bigSep away fun d => cred (tallyAt (recvC c d) () N))
    ∗ (bigSep Finset.univ fun d => atPos ER (sendC c d) 0 ∅ 0) ∗ (bigSep Finset.univ fun d => atPos ER (recvC c d) 0 ∅ 0)
    ∗ owns (c : Thread nD τ) xHbm fullShare (xv m c) ∗ cols m c Finset.univ ∗ (bigSep Finset.univ fun d => anyAt (c : Thread nD τ) (orowM (c - d)))
    ∗ anyAt (c : Thread nD τ) xBuf ∗ (bigSep Finset.univ fun s => anyAt (c : Thread nD τ) (wslotM s))
    ∗ (bigSep Finset.univ fun d => anyAt (c : Thread nD τ) (stageM d)) ∗ (bigSep Finset.univ fun d => anyAt (c : Thread nD τ) (sendM d))
    ∗ (bigSep Finset.univ fun d => anyAt (c : Thread nD τ) (recvM d))
    ∗ semVal ((c : Thread nD τ), .dma xS) 0 ∗ (bigSep Finset.univ fun s => semVal ((c : Thread nD τ), .dma (wS s)) 0)
    ∗ (bigSep Finset.univ fun d => semVal ((c : Thread nD τ), .dma (outS d)) 0))

/-- What it holds when the body ends: every row block of the result written, nothing owed, every counter at zero. -/
def after : sProp 𝕄 :=
  iprop(debt c ∅ ∅
    ∗ owns (c : Thread nD τ) xHbm fullShare (xv m c) ∗ cols m c Finset.univ ∗ (bigSep Finset.univ fun d => owns (c : Thread nD τ) (orowM (c - d)) fullShare (outv m c d))
    ∗ anyAt (c : Thread nD τ) xBuf ∗ (bigSep Finset.univ fun s => anyAt (c : Thread nD τ) (wslotM s))
    ∗ (bigSep Finset.univ fun d => anyAt (c : Thread nD τ) (stageM d)) ∗ (bigSep Finset.univ fun d => anyAt (c : Thread nD τ) (sendM d))
    ∗ (bigSep Finset.univ fun d => anyAt (c : Thread nD τ) (recvM d))
    ∗ semVal ((c : Thread nD τ), .dma xS) 0 ∗ (bigSep Finset.univ fun s => semVal ((c : Thread nD τ), .dma (wS s)) 0)
    ∗ (bigSep Finset.univ fun d => semVal ((c : Thread nD τ), .dma (outS d)) 0)
    ∗ semVal (barC c) 0 ∗ (bigSep Finset.univ fun d => semVal (sendC c d) 0) ∗ (bigSep Finset.univ fun d => semVal (recvC c d) 0))

/-- Every distance is 0 or away. -/
theorem all_split (A : Fin 8 → sProp 𝕄) : bigSep Finset.univ A = iprop(A 0 ∗ bigSep away A) := bigSep_univ_split 0
/-- An assertion for each of three slots, written out. -/
theorem three_split (A : Fin 3 → sProp 𝕄) : bigSep Finset.univ A = iprop(A 0 ∗ A 1 ∗ A 2) := by
  rw [show (Finset.univ : Finset (Fin 3)) = insert 0 (insert 1 {2}) by decide, bigSep_insert (by decide), bigSep_insert (by decide), bigSep_singleton]; rfl

/-- The distances away, seen from the other end. -/
theorem away_neg (A : Fin 8 → sProp 𝕄) : bigSep away A = bigSep away fun d => A (-d) := by
  refine Eq.trans ?_ (bigSep_map (s := away) (⟨fun d : Fin 8 => -d, fun a b h => by revert a b; decide⟩ : Fin 8 ↪ Fin 8) (Φ := A))
  exact congrArg (fun S => bigSep S A) (by decide)

/-- The signals' material, distance by distance, from the tokens and the receive slots. -/
theorem to_signal : iprop((bigSep away fun d => dutyTok ER (barC (c + d)) 0 (-d)) ∗ (bigSep away fun d => anyAt (c : Thread nD τ) (recvM d)))
    ⊢ bigSep away (toSignal (F := F) c) := by
  rw [away_neg fun d => anyAt (F := F) (c : Thread nD τ) (recvM d)]
  rw [← bigSep_sep']
  exact Entails.refl _

/-- The sends' material from what the barrier gave, the send slots and the tokens. -/
theorem to_send : iprop(bigSep away (barPay c) ∗ (bigSep away fun d => anyAt (c : Thread nD τ) (sendM d))
      ∗ (bigSep away fun d => dutyTok ER (sendC c d) 0 0) ∗ (bigSep away fun d => dutyTok ER (recvC (c + d) d) 0 0))
    ⊢ bigSep away (toSend (F := F) c) := by
  rw [← bigSep_sep', ← bigSep_sep', ← bigSep_sep']
  refine bigSep_mono fun d _ => ?_
  show BIBase.Entails (PROP := sProp 𝕄) _ _
  unfold barPay toSend
  iintro ⟨⟨Hr, -⟩, Hs, H1, H2⟩
  isplitl [Hs]; · iexact Hs
  isplitl [Hr]; · iexact Hr
  isplitl [H1] <;> iassumption

/-- The receives' material from the credits, the positions, the staging slots, the result's rows and the counters. -/
theorem to_recv : iprop((bigSep away fun d => cred (tallyAt (recvC c d) () N)) ∗ (bigSep away fun d => atPos ER (recvC c d) 0 ∅ 0)
      ∗ (bigSep away fun d => anyAt (c : Thread nD τ) (stageM d)) ∗ (bigSep away fun d => anyAt (c : Thread nD τ) (orowM (c - d)))
      ∗ (bigSep away fun d => semVal ((c : Thread nD τ), .dma (outS d)) 0))
    ⊢ bigSep away (toRecv (F := F) c) := by
  rw [← bigSep_sep', ← bigSep_sep', ← bigSep_sep', ← bigSep_sep']
  exact Entails.refl _

/-- The send waits' material from what the sends left and the positions. -/
theorem to_drain : iprop(bigSep away (sent (F := F) c) ∗ (bigSep away fun d => atPos ER (sendC c d) 0 ∅ 0)) ⊢ bigSep away (toDrain (F := F) c) := by
  rw [← bigSep_sep']
  exact Entails.refl _

/-- What the receives leave, sorted: counters at zero, receive slots, and the copies out that are under way. -/
theorem of_received : bigSep away (received m c)
    ⊢ iprop((bigSep away fun d => semVal (recvC c d) 0) ∗ (bigSep away fun d => anyAt (c : Thread nD τ) (recvM d)) ∗ bigSep away (oFlight m c)) := by
  rw [← bigSep_sep', ← bigSep_sep']
  refine bigSep_mono fun d _ => ?_
  show BIBase.Entails (PROP := sProp 𝕄) _ _
  unfold received recvPay anyAt
  iintro ⟨Hz, Hr, Hf⟩
  isplitl [Hz]; · iexact Hz
  isplitl [Hr]; · iexists _; iexact Hr
  iexact Hf

/-- What the send waits leave, sorted. -/
theorem of_drained : bigSep away (drained (F := F) c)
    ⊢ iprop((bigSep away fun d => semVal (sendC c d) 0) ∗ (bigSep away fun d => anyAt (c : Thread nD τ) (sendM d))) := by
  rw [← bigSep_sep']
  exact Entails.refl _

/-- What the copies out leave, sorted: the result's rows at their values, the staging slots, counters at zero. -/
theorem of_stored : bigSep Finset.univ (stored m c)
    ⊢ iprop((bigSep Finset.univ fun d => owns (c : Thread nD τ) (orowM (c - d)) fullShare (outv m c d)) ∗ (bigSep Finset.univ fun d => anyAt (c : Thread nD τ) (stageM d))
      ∗ (bigSep Finset.univ fun d => semVal ((c : Thread nD τ), .dma (outS d)) 0)) := by
  rw [← bigSep_sep', ← bigSep_sep']
  exact Entails.refl _

/-- The states with nothing left to do. -/
theorem signalling_end {T : Finset (Fin 8)} (hT : T = ∅) : signalling m K c T ⊢ debt (F := F) c away ∅ := by
  subst hT; unfold signalling
  iintro ⟨-, H, -⟩; iexact H

/-- Into the state of the products and sends: everything still to be sent. -/
theorem computing_start {T : Finset (Fin 8)} : iprop(records m K ∗ levAts L lv ∗ debt c away ∅ ∗ owns (c : Thread nD τ) xBuf fullShare (xv m c) ∗ bigSep away (toSend c) ∗ cols m c T)
    ⊢ computing m K c away T := by
  unfold computing
  iintro ⟨H1, H2, H3, H4, H5, H6⟩
  isplitl [H1]; · iexact H1
  isplitl [H2]; · iexact H2
  isplitl [H3]; · iexact H3
  isplitl [H4]; · iexact H4
  isplitl [H5]; · iapply (moving_start _ _ _) $$ H5
  iexact H6

/-- And out of it, once everything is sent. -/
theorem computing_end {S T : Finset (Fin 8)} (hS : S = ∅) (hT : T = Finset.univ) : computing m K c S T
    ⊢ iprop(debt c ∅ ∅ ∗ owns (c : Thread nD τ) xBuf fullShare (xv m c) ∗ bigSep away (sent c) ∗ cols m c Finset.univ) := by
  subst hS hT; unfold computing
  iintro ⟨-, -, H3, H4, H5, H6⟩
  isplitl [H3]; · iexact H3
  isplitl [H4]; · iexact H4
  isplitl [H5]; · iapply (moving_end _ _ _ rfl) $$ H5
  iexact H6

/-- Into the state of the receives, -/
theorem receiving_start : iprop(records m K ∗ debt c ∅ ∅ ∗ bigSep away (toRecv c)) ⊢ receiving m K c away := by
  unfold receiving
  iintro ⟨H1, H2, H3⟩
  isplitl [H1]; · iexact H1
  isplitl [H2]; · iexact H2
  iapply (moving_start _ _ _) $$ H3

/-- and out of it. -/
theorem receiving_end {S : Finset (Fin 8)} (hS : S = ∅) : receiving m K c S ⊢ iprop(debt c ∅ ∅ ∗ bigSep away (received m c)) := by
  subst hS; unfold receiving
  iintro ⟨-, H2, H3⟩
  isplitl [H2]; · iexact H2
  iapply (moving_end _ _ _ rfl) $$ H3

/-- Into the state of the send waits, -/
theorem draining_start : iprop(records m K ∗ debt c ∅ ∅ ∗ bigSep away (toDrain c)) ⊢ draining m K c away := by
  unfold draining
  iintro ⟨H1, H2, H3⟩
  isplitl [H1]; · iexact H1
  isplitl [H2]; · iexact H2
  iapply (moving_start _ _ _) $$ H3

/-- and out of it. -/
theorem draining_end {S : Finset (Fin 8)} (hS : S = ∅) : draining m K c S ⊢ iprop(debt c ∅ ∅ ∗ bigSep away (drained c)) := by
  subst hS; unfold draining
  iintro ⟨-, H2, H3⟩
  isplitl [H2]; · iexact H2
  iapply (moving_end _ _ _ rfl) $$ H3

/-- Into the state of the copies out, -/
theorem storing_start : iprop(levAts L lv ∗ debt c ∅ ∅ ∗ oFlight m c 0 ∗ bigSep away (oFlight m c)) ⊢ storing m c Finset.univ := by
  unfold storing
  rw [← all_split]
  iintro ⟨H1, H2, H3⟩
  isplitl [H1]; · iexact H1
  isplitl [H2]; · iexact H2
  iapply (moving_start _ _ _) $$ H3

/-- and out of it, with every row block stored. -/
theorem storing_end {S : Finset (Fin 8)} (hS : S = ∅) : storing m c S ⊢ iprop(debt c ∅ ∅ ∗ bigSep Finset.univ (stored m c)) := by
  subst hS; unfold storing
  iintro ⟨-, H2, H3⟩
  isplitl [H2]; · iexact H2
  iapply (moving_end _ _ _ rfl) $$ H3

/-- Waiting for the rows. -/
theorem x_wait {X : FVec F S256x2048 .f32} {S : Finset (Fin 8)} {h₁ : xHbm.view.WordExact} {h₂ : xBuf.view.WordExact}
    {p : PUnit → Prog (TpuEff nD τ sig (Elt F) Λ₀ (c : Thread nD τ).2) PUnit} {Q : PUnit → sProp 𝕄} :
    iprop(levAts L lv ∗ debt c S ∅ ∗ Transfers.Flight EC (c : Thread nD τ) (.dma xS) () NX iprop(owns (c : Thread nD τ) xBuf fullShare X ∗ owns (c : Thread nD τ) xHbm fullShare X))
      ⊢ iprop((iprop(debt c S ∅ ∗ owns (c : Thread nD τ) xBuf fullShare X ∗ owns (c : Thread nD τ) xHbm fullShare X ∗ semVal ((c : Thread nD τ), .dma xS) 0) -∗ run c (p ⟨⟩) Q)
        -∗ run c (.op (.waitDma2 xS xHbm xBuf h₁ h₂) p) Q) := by
  iintro ⟨#Hlev, Hdebt, Hf⟩ Hk
  unfold debt
  iapply (step_wait c (n := NX) rfl (O := owedR c S + owedB c ∅)) $$ [Hdebt Hf]
  · isplitl [Hf]; · iexact Hf
    isplitl [Hdebt]; · iexact Hdebt
    iapply (mayWait_local c xS (by decide) S ∅) $$ Hlev
  iintro ⟨⟨Hb, Hx⟩, Hsem, Hdebt⟩
  iapply Hk
  isplitl [Hdebt]; · iexact Hdebt
  isplitl [Hb]; · iexact Hb
  isplitl [Hx] <;> iassumption

end

end Cert.Exchange
-- ==== Proof.Body.lean ====
/-
# The body of a device, operation by operation
-/
module

public import proofs.«01_k».proof.Proof.Ends
public import proofs.«01_k».proof.Proof.Gen.KernelIdeal.Points

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

set_option maxHeartbeats 1000000 in
/-- The body of device `c`: from what it holds before to what it holds after. -/
theorem body_run (K : Dev nD × Fin 17 → ℕ) (c : Dev nD) (t : Fin cfg0.N) (Q : PUnit → sProp (MT nD τ sig Unit (Elt F) ℕ UU ℕ)) :
    before m K c ⊢ iprop((after m c -∗ Q ⟨⟩) -∗ run c (bodyAt0 t) Q) := by
  unfold before
  rw [three_split fun s => anyAt (F := F) (c : Thread nD τ) (wslotM s), three_split fun s => (semVal ((c : Thread nD τ), .dma (wS s)) 0 : sProp 𝕄),
    all_split fun d => anyAt (F := F) (c : Thread nD τ) (stageM d), all_split fun d => anyAt (F := F) (c : Thread nD τ) (sendM d),
    all_split fun d => anyAt (F := F) (c : Thread nD τ) (recvM d), all_split fun d => anyAt (F := F) (c : Thread nD τ) (orowM (c - d)),
    all_split fun d => (semVal ((c : Thread nD τ), .dma (outS d)) 0 : sProp 𝕄),
    all_split fun d => (atPos ER (sendC c d) 0 ∅ 0 : sProp 𝕄), all_split fun d => (atPos ER (recvC c d) 0 ∅ 0 : sProp 𝕄)]
  iintro ⟨#Hrec, #Hlev, Hdebt, Hbar, HbarAt, Hsig, Htok1, Htok2, Hcred, ⟨HsendAt0, HsendAt⟩, ⟨HrecvAt0, HrecvAt⟩, Hx, Hcols, ⟨Hrow0, Hrow⟩, Hxb,
    ⟨Hw0, Hw1, Hw2⟩, ⟨Hst0, Hst⟩, ⟨Hsend0, Hsend⟩, ⟨Hrecv0, Hrecv⟩, HxS, ⟨Hs0, Hs1, Hs2⟩, ⟨Ho0, Ho⟩⟩ Hk
  unfold bodyAt0
  simp only [cc0_body_eq_skeleton, cc0_body_skel, k0_part1_eq_skeleton, k0_part1_skel, k0_part2_eq_skeleton, k0_part2_skel, k0_part3_eq_skeleton, k0_part3_skel, k0_part4_eq_skeleton,
    k0_part4_skel, k0_part5_eq_skeleton, k0_part5_skel, k0_part6_eq_skeleton, k0_part6_skel, k0_part7_eq_skeleton, k0_part7_skel,
    k0_part8_eq_skeleton, k0_part8_skel, k0_part9_eq_skeleton, k0_part9_skel, k0_part10_eq_skeleton, k0_part10_skel, k0_part11_eq_skeleton,
    k0_part11_skel, k0_part12_eq_skeleton, k0_part12_skel, k0_part13_eq_skeleton, k0_part13_skel, k0_part14_eq_skeleton, k0_part14_skel,
    k0_part15_eq_skeleton, k0_part15_skel, k0_part16_eq_skeleton, k0_part16_skel, k0_part17_eq_skeleton, k0_part17_skel, k0_part18_eq_skeleton,
    k0_part18_skel, k0_part19_eq_skeleton, k0_part19_skel, k0_part20_eq_skeleton, k0_part20_skel,
    semSignalWord, semWaitWord, Prog.lift, Prog.bind_op, Prog.bind_ret, Prog.pure_eq_ret]
  unfold run
  simp only [wp_deviceId]
  -- the rows, and the first two column blocks
  iapply (step_start c (sm := .dma xS) NX rfl NX_pos) $$ [Hx Hxb HxS]
  · isplitl [Hx]; · iexact Hx
    isplitl [Hxb] <;> iassumption
  iintro Hxf
  iapply (cols_start m c 0 2 (Finset.mem_univ _) (col_slice (off_col c 1))) $$ [Hcols Hw0 Hs0]
  · isplitl [Hcols]; · iexact Hcols
    unfold wFree; isplitl [Hw0] <;> iassumption
  iintro ⟨Hcols, Hf0⟩
  iapply (cols_start m c 1 6 (T := Finset.univ.erase 2) (by decide) (col_slice (off_col c 5))) $$ [Hcols Hw1 Hs1]
  · isplitl [Hcols]; · iexact Hcols
    unfold wFree; isplitl [Hw1] <;> iassumption
  iintro ⟨Hcols, Hf1⟩
  -- the neighbours
  ihave Hsig := (to_signal c) $$ [Hsig Hrecv]
  · isplitl [Hsig] <;> iassumption
  ihave Hsig := (moving_start (toSignal c) (fun _ => iprop(emp)) away) $$ Hsig
  ihave Hst1 : signalling m K c away $$ [Hdebt Hsig]
  · unfold signalling
    isplitr; · iexact Hrec
    isplitl [Hdebt] <;> iassumption
  iapply (signal_turn m K c 1 (dev_at c 1 (k0_dev1_eq c)) (T := away) (by decide) (by decide) rfl) $$ Hst1
  iintro Hst1
  iapply (signal_turn m K c 2 (dev_at c 2 (k0_dev2_eq c)) (T := (away.erase 1)) (by decide) (by decide) rfl) $$ Hst1
  iintro Hst1
  iapply (signal_turn m K c 3 (dev_at c 3 (k0_dev3_eq c)) (T := ((away.erase 1).erase 2)) (by decide) (by decide) rfl) $$ Hst1
  iintro Hst1
  iapply (signal_turn m K c 4 (dev_at c 4 (k0_dev4_eq c)) (T := (((away.erase 1).erase 2).erase 3)) (by decide) (by decide) rfl) $$ Hst1
  iintro Hst1
  iapply (signal_turn m K c 5 (dev_at c 5 (k0_dev5_eq c)) (T := ((((away.erase 1).erase 2).erase 3).erase 4)) (by decide) (by decide) rfl) $$ Hst1
  iintro Hst1
  iapply (signal_turn m K c 6 (dev_at c 6 (k0_dev6_eq c)) (T := (((((away.erase 1).erase 2).erase 3).erase 4).erase 5)) (by decide) (by decide) rfl) $$ Hst1
  iintro Hst1
  iapply (signal_turn m K c 7 (dev_at c 7 (k0_dev7_eq c)) (T := ((((((away.erase 1).erase 2).erase 3).erase 4).erase 5).erase 6)) (by decide) (by decide) rfl) $$ Hst1
  iintro Hst1
  ihave Hdebt := (signalling_end m K c (by decide)) $$ Hst1
  iapply (step_barrier m K c rfl) $$ [Hdebt Hbar HbarAt]
  · isplitr; · iexact Hrec
    isplitr; · iexact Hlev
    isplitl [Hdebt]; · iexact Hdebt
    isplitl [Hbar] <;> iassumption
  iintro ⟨Hdebt, Hbz, Hpay⟩
  ihave Hsnd := (to_send c) $$ [Hpay Hsend Htok1 Htok2]
  · isplitl [Hpay]; · iexact Hpay
    isplitl [Hsend]; · iexact Hsend
    isplitl [Htok1] <;> iassumption
  -- the rows have arrived
  iapply (x_wait c) $$ [Hdebt Hxf]
  · isplitr; · iexact Hlev
    isplitl [Hdebt] <;> iassumption
  iintro ⟨Hdebt, Hxb, Hx, HxS⟩
  ihave Hcomp := (computing_start m K c) $$ [Hdebt Hxb Hsnd Hcols]
  · isplitr; · iexact Hrec
    isplitr; · iexact Hlev
    isplitl [Hdebt]; · iexact Hdebt
    isplitl [Hxb]; · iexact Hxb
    isplitl [Hsnd] <;> iassumption
  ihave Hs : sending m K c away ((Finset.univ.erase 2).erase 6) 0 2 1 6 2 $$ [Hcomp Hf0 Hf1 Hw2 Hs2]
  · unfold sending
    isplitl [Hcomp]; · iexact Hcomp
    isplitl [Hf0]; · iexact Hf0
    isplitl [Hf1]; · iexact Hf1
    unfold wFree; isplitl [Hw2] <;> iassumption
  -- the tiles, computed and sent
  iapply (send_turn m K c 2 0 1 2 6 3 (dev_at c 2 (k0_dev8_eq c)) (S := away) (T := ((Finset.univ.erase 2).erase 6)) (by decide) (by decide) (by decide) (by decide)
    (col_slice (off_col c 2)) (f := fun x w => k0_pay2 (k0_pay1 x w)) sends_pay2) $$ Hs
  iintro Hs
  iapply (send_turn m K c 6 1 2 0 3 5 (dev_at c 6 (k0_dev9_eq c)) (S := (away.erase 2)) (T := (insert 2 (((Finset.univ.erase 2).erase 6).erase 3))) (by decide) (by decide) (by decide) (by decide)
    (col_slice (off_col c 4)) (f := fun x w => k0_pay5 (k0_pay3 x w) (k0_pay4 x w)) sends_pay5) $$ Hs
  iintro Hs
  iapply (send_turn m K c 3 2 0 1 5 1 (dev_at c 3 (k0_dev10_eq c)) (S := ((away.erase 2).erase 6)) (T := (insert 6 ((insert 2 (((Finset.univ.erase 2).erase 6).erase 3)).erase 5))) (by decide) (by decide) (by decide) (by decide)
    (col_slice (off_col c 0)) (f := fun x w => k0_pay6 x w) sends_pay6) $$ Hs
  iintro Hs
  iapply (send_turn m K c 5 0 1 2 1 7 (dev_at c 5 (k0_dev11_eq c)) (S := (((away.erase 2).erase 6).erase 3)) (T := (insert 3 ((insert 6 ((insert 2 (((Finset.univ.erase 2).erase 6).erase 3)).erase 5)).erase 1))) (by decide) (by decide) (by decide) (by decide)
    (col_slice (off_col c 6)) (f := fun x w => k0_pay7 x w) sends_pay7) $$ Hs
  iintro Hs
  iapply (send_turn m K c 1 1 2 0 7 4 (dev_at c 1 (k0_dev12_eq c)) (S := ((((away.erase 2).erase 6).erase 3).erase 5)) (T := (insert 5 ((insert 3 ((insert 6 ((insert 2 (((Finset.univ.erase 2).erase 6).erase 3)).erase 5)).erase 1)).erase 7))) (by decide) (by decide) (by decide) (by decide)
    (col_slice (off_col c 3)) (f := fun x w => k0_pay8 x w) sends_pay8) $$ Hs
  iintro Hs
  iapply (send_turn m K c 7 2 0 1 4 0 (dev_at c 7 (k0_dev13_eq c)) (S := (((((away.erase 2).erase 6).erase 3).erase 5).erase 1)) (T := (insert 1 ((insert 5 ((insert 3 ((insert 6 ((insert 2 (((Finset.univ.erase 2).erase 6).erase 3)).erase 5)).erase 1)).erase 7)).erase 4))) (by decide) (by decide) (by decide) (by decide)
    (col_slice (off_own c)) (f := fun x w => k0_pay9 x w) sends_pay9) $$ Hs
  iintro Hs
  unfold sending
  icases Hs with ⟨Hcomp, Hf0, Hf1, Hfree2⟩
  iapply (send_last m K c 4 0 (dev_at c 4 (k0_dev14_eq c)) (S := ((((((away.erase 2).erase 6).erase 3).erase 5).erase 1).erase 7)) (T := (insert 7 ((insert 1 ((insert 5 ((insert 3 ((insert 6 ((insert 2 (((Finset.univ.erase 2).erase 6).erase 3)).erase 5)).erase 1)).erase 7)).erase 4)).erase 0))) (by decide) (by decide) (by decide)
    (f := fun x w => k0_pay10 x w) sends_pay10) $$ [Hcomp Hf0]
  · isplitl [Hcomp] <;> iassumption
  iintro ⟨Hcomp, Hfree0⟩
  -- the own tile
  iapply (own_tile m K c 1 (S := (((((((away.erase 2).erase 6).erase 3).erase 5).erase 1).erase 7).erase 4)) (T := (insert 4 (insert 7 ((insert 1 ((insert 5 ((insert 3 ((insert 6 ((insert 2 (((Finset.univ.erase 2).erase 6).erase 3)).erase 5)).erase 1)).erase 7)).erase 4)).erase 0)))) (by decide) (row_slice (off_ownrow c)) (f := fun x w => k0_pay11 x w) own_pay11)
    $$ [Hcomp Hf1 Hst0 Hrow0 Ho0]
  · isplitl [Hcomp]; · iexact Hcomp
    isplitl [Hf1]; · iexact Hf1
    isplitl [Hst0]; · iexact Hst0
    isplitl [Hrow0] <;> iassumption
  iintro ⟨Hcomp, Hfree1, Hown⟩
  ihave H := (computing_end m K c (by decide) (by decide)) $$ Hcomp
  icases H with ⟨Hdebt, Hxb, Hsent, Hcols⟩
  -- the tiles that arrive
  ihave Hr := (to_recv c) $$ [Hcred HrecvAt Hst Hrow Ho]
  · isplitl [Hcred]; · iexact Hcred
    isplitl [HrecvAt]; · iexact HrecvAt
    isplitl [Hst]; · iexact Hst
    isplitl [Hrow] <;> iassumption
  ihave Hr := (receiving_start m K c) $$ [Hdebt Hr]
  · isplitr; · iexact Hrec
    isplitl [Hdebt] <;> iassumption
  iapply (recv_turn m K c 2 (S := away) (by decide) (by decide) (row_slice (off_row c 1)) (f := fun v => k0_pay12 v) widens_pay12) $$ Hr
  iintro Hr
  iapply (recv_turn m K c 6 (S := (away.erase 2)) (by decide) (by decide) (row_slice (off_row c 5)) (f := fun v => k0_pay14 (k0_pay13 v)) widens_pay14) $$ Hr
  iintro Hr
  iapply (recv_turn m K c 3 (S := ((away.erase 2).erase 6)) (by decide) (by decide) (row_slice (off_row c 2)) (f := fun v => k0_pay15 v) widens_pay15) $$ Hr
  iintro Hr
  iapply (recv_turn m K c 5 (S := (((away.erase 2).erase 6).erase 3)) (by decide) (by decide) (row_slice (off_row c 4)) (f := fun v => k0_pay16 v) widens_pay16) $$ Hr
  iintro Hr
  iapply (recv_turn m K c 1 (S := ((((away.erase 2).erase 6).erase 3).erase 5)) (by decide) (by decide) (row_slice (off_row c 0)) (f := fun v => k0_pay17 v) widens_pay17) $$ Hr
  iintro Hr
  iapply (recv_turn m K c 7 (S := (((((away.erase 2).erase 6).erase 3).erase 5).erase 1)) (by decide) (by decide) (row_slice (off_row c 6)) (f := fun v => k0_pay18 v) widens_pay18) $$ Hr
  iintro Hr
  iapply (recv_turn m K c 4 (S := ((((((away.erase 2).erase 6).erase 3).erase 5).erase 1).erase 7)) (by decide) (by decide) (row_slice (off_row c 3)) (f := fun v => k0_pay19 v) widens_pay19) $$ Hr
  iintro Hr
  ihave H := (receiving_end m K c (by decide)) $$ Hr
  icases H with ⟨Hdebt, Hr⟩
  -- the own copies have left
  ihave Hd := (to_drain c) $$ [Hsent HsendAt]
  · isplitl [Hsent] <;> iassumption
  ihave Hd := (draining_start m K c) $$ [Hdebt Hd]
  · isplitr; · iexact Hrec
    isplitl [Hdebt] <;> iassumption
  iapply (drain_turn m K c 2 (S := away) (by decide) (by decide) (credit_send 2)) $$ Hd
  iintro Hd
  iapply (drain_turn m K c 6 (S := (away.erase 2)) (by decide) (by decide) (credit_send 6)) $$ Hd
  iintro Hd
  iapply (drain_turn m K c 3 (S := ((away.erase 2).erase 6)) (by decide) (by decide) (credit_send 3)) $$ Hd
  iintro Hd
  iapply (drain_turn m K c 5 (S := (((away.erase 2).erase 6).erase 3)) (by decide) (by decide) (credit_send 5)) $$ Hd
  iintro Hd
  iapply (drain_turn m K c 1 (S := ((((away.erase 2).erase 6).erase 3).erase 5)) (by decide) (by decide) (credit_send 1)) $$ Hd
  iintro Hd
  iapply (drain_turn m K c 7 (S := (((((away.erase 2).erase 6).erase 3).erase 5).erase 1)) (by decide) (by decide) (credit_send 7)) $$ Hd
  iintro Hd
  iapply (drain_turn m K c 4 (S := ((((((away.erase 2).erase 6).erase 3).erase 5).erase 1).erase 7)) (by decide) (by decide) (credit_send 4)) $$ Hd
  iintro Hd
  ihave H := (draining_end m K c (by decide)) $$ Hd
  icases H with ⟨Hdebt, Hd⟩
  ihave Hr := (of_received m c) $$ Hr
  icases Hr with ⟨Hrz, Hrecv, Hfl⟩
  -- the result is written
  ihave Ho := (storing_start m c) $$ [Hdebt Hown Hfl]
  · isplitr; · iexact Hlev
    isplitl [Hdebt]; · iexact Hdebt
    isplitl [Hown] <;> iassumption
  iapply (store_turn m c 0 (S := Finset.univ) (by decide) credit_row) $$ Ho
  iintro Ho
  iapply (store_turn m c 2 (S := (Finset.univ.erase 0)) (by decide) credit_row) $$ Ho
  iintro Ho
  iapply (store_turn m c 6 (S := ((Finset.univ.erase 0).erase 2)) (by decide) credit_row) $$ Ho
  iintro Ho
  iapply (store_turn m c 3 (S := (((Finset.univ.erase 0).erase 2).erase 6)) (by decide) credit_row) $$ Ho
  iintro Ho
  iapply (store_turn m c 5 (S := ((((Finset.univ.erase 0).erase 2).erase 6).erase 3)) (by decide) credit_row) $$ Ho
  iintro Ho
  iapply (store_turn m c 1 (S := (((((Finset.univ.erase 0).erase 2).erase 6).erase 3).erase 5)) (by decide) credit_row) $$ Ho
  iintro Ho
  iapply (store_turn m c 7 (S := ((((((Finset.univ.erase 0).erase 2).erase 6).erase 3).erase 5).erase 1)) (by decide) credit_row) $$ Ho
  iintro Ho
  iapply (store_turn m c 4 (S := (((((((Finset.univ.erase 0).erase 2).erase 6).erase 3).erase 5).erase 1).erase 7)) (by decide) credit_row) $$ Ho
  iintro Ho
  ihave H := (storing_end m c (by decide)) $$ Ho
  icases H with ⟨Hdebt, Ho⟩
  ihave Ho := (of_stored m c) $$ Ho
  icases Ho with ⟨Hrows, Hstage, HoS⟩
  ihave Hd := (of_drained c) $$ Hd
  icases Hd with ⟨Hdz, Hsend⟩
  unfold wFree
  icases Hfree0 with ⟨Hw0, Hs0⟩
  icases Hfree1 with ⟨Hw1, Hs1⟩
  icases Hfree2 with ⟨Hw2, Hs2⟩
  unfold run
  rw [wp_ret]
  -- the shared cells of distance 0 were not used
  imod (close_zero_send m K c) $$ [HsendAt0] with Hz0
  · isplitr; · iexact Hrec
    iexact HsendAt0
  imod (close_zero_recv m K c) $$ [HrecvAt0] with Hz0'
  · isplitr; · iexact Hrec
    iexact HrecvAt0
  imodintro
  iapply Hk
  unfold after
  rw [three_split fun s => anyAt (F := F) (c : Thread nD τ) (wslotM s), three_split fun s => (semVal ((c : Thread nD τ), .dma (wS s)) 0 : sProp 𝕄),
    all_split fun d => anyAt (F := F) (c : Thread nD τ) (sendM d), all_split fun d => anyAt (F := F) (c : Thread nD τ) (recvM d),
    all_split fun d => (semVal (sendC c d) 0 : sProp 𝕄), all_split fun d => (semVal (recvC c d) 0 : sProp 𝕄)]
  isplitl [Hdebt]; · iexact Hdebt
  isplitl [Hx]; · iexact Hx
  isplitl [Hcols]; · iexact Hcols
  isplitl [Hrows]; · iexact Hrows
  isplitl [Hxb]; · unfold anyAt; iexists _; iexact Hxb
  isplitl [Hw0 Hw1 Hw2]
  · isplitl [Hw0]; · iexact Hw0
    isplitl [Hw1] <;> iassumption
  isplitl [Hstage]; · iexact Hstage
  isplitl [Hsend0 Hsend]; · isplitl [Hsend0] <;> iassumption
  isplitl [Hrecv0 Hrecv]; · isplitl [Hrecv0] <;> iassumption
  isplitl [HxS]; · iexact HxS
  isplitl [Hs0 Hs1 Hs2]
  · isplitl [Hs0]; · iexact Hs0
    isplitl [Hs1] <;> iassumption
  isplitl [HoS]; · iexact HoS
  isplitl [Hbz]; · iexact Hbz
  isplitl [Hz0 Hdz]; · isplitl [Hz0] <;> iassumption
  isplitl [Hz0'] <;> iassumption

end Cert.Exchange
-- ==== Proof.Pieces.lean ====
/-
# Whole buffers and their pieces

The scratch buffers are held slot by slot, the right operand column block by column block and the result row block by row
block. Here the pieces are split off the whole buffers and put together again.
-/
module

public import proofs.«01_k».proof.Proof.Body

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Which elements the pieces are -/

/-- The elements of a send slot, -/
theorem send_set (d : Fin 8) : (sendM d).view.set = (slotR d).set := (View.set_reshape _ _).trans (View.set_slice_whole _ _)
/-- of a receive slot, -/
theorem recv_set (d : Fin 8) : (recvM d).view.set = (slotR d).set := (View.set_reshape _ _).trans (View.set_slice_whole _ _)
/-- of a staging slot, -/
theorem stage_set (d : Fin 8) : (stageM d).view.set = (slotR d).set := (View.set_reshape _ _).trans (View.set_slice_whole _ _)
/-- and of a column-block slot. -/
theorem wslot_set (s : Fin 3) : (wslotM s).view.set = (wslotR s).set := (View.set_reshape _ _).trans (View.set_slice_whole _ _)

/-- Eight slots of a buffer are disjoint, -/
theorem slot_disjoint (d d' : Fin 8) (h : d ≠ d') : Disjoint (slotR d).set (slotR d').set :=
  Ring.lead_disjoint (s := S8x256x256) (0 : Fin 3) 1 (fun d : Fin 8 => ![d.val, 0, 0]) S1x256x256.size slot_inb
    (fun d => (Nat.one_mul _).symm) rfl d d' h
/-- and are all of it. -/
theorem slot_cover : Finset.univ.biUnion (fun d : Fin 8 => (slotR d).set) = Finset.univ :=
  Ring.lead_cover (s := S8x256x256) (0 : Fin 3) 1 (fun d : Fin 8 => ![d.val, 0, 0]) S1x256x256.size slot_inb
    (fun d => (Nat.one_mul _).symm) (fun d a ha => by fin_cases a; exacts [absurd rfl ha, rfl, rfl]) rfl
    (fun a ha => by fin_cases a; exacts [absurd rfl ha, rfl, rfl]) rfl
/-- So are the three column-block slots, -/
theorem wslot_disjoint (s s' : Fin 3) (h : s ≠ s') : Disjoint (wslotR s).set (wslotR s').set :=
  Ring.lead_disjoint (s := S3x2048x256) (0 : Fin 3) 1 (fun s : Fin 3 => ![s.val, 0, 0]) S1x2048x256.size wslot_inb
    (fun s => (Nat.one_mul _).symm) rfl s s' h
/-- which are all of their buffer, -/
theorem wslot_cover : Finset.univ.biUnion (fun s : Fin 3 => (wslotR s).set) = Finset.univ :=
  Ring.lead_cover (s := S3x2048x256) (0 : Fin 3) 1 (fun s : Fin 3 => ![s.val, 0, 0]) S1x2048x256.size wslot_inb
    (fun s => (Nat.one_mul _).symm) (fun s a ha => by fin_cases a; exacts [absurd rfl ha, rfl, rfl]) rfl
    (fun a ha => by fin_cases a; exacts [absurd rfl ha, rfl, rfl]) rfl
/-- the eight column blocks of the right operand, -/
theorem wcol_disjoint (k k' : Fin 8) (h : k ≠ k') : Disjoint (wcolR k).set (wcolR k').set :=
  Ring.lead_disjoint (s := S2048x2048) (1 : Fin 2) 256 (fun k : Fin 8 => ![0, 256 * k.val]) S2048x256.size wcol_inb
    (fun k => rfl) rfl k k' h
/-- which are all of it, -/
theorem wcol_cover : Finset.univ.biUnion (fun k : Fin 8 => (wcolR k).set) = Finset.univ :=
  Ring.lead_cover (s := S2048x2048) (1 : Fin 2) 256 (fun k : Fin 8 => ![0, 256 * k.val]) S2048x256.size wcol_inb
    (fun k => rfl) (fun k a ha => by fin_cases a; exacts [rfl, absurd rfl ha]) rfl
    (fun a ha => by fin_cases a; exacts [rfl, absurd rfl ha]) rfl
/-- and the eight row blocks of the result, -/
theorem orow_disjoint (k k' : Fin 8) (h : k ≠ k') : Disjoint (orowR k).set (orowR k').set :=
  Ring.lead_disjoint (s := S2048x256) (0 : Fin 2) 256 (fun k : Fin 8 => ![256 * k.val, 0]) S256x256.size orow_inb
    (fun k => rfl) rfl k k' h
/-- which are all of it. -/
theorem orow_cover : Finset.univ.biUnion (fun k : Fin 8 => (orowR k).set) = Finset.univ :=
  Ring.lead_cover (s := S2048x256) (0 : Fin 2) 256 (fun k : Fin 8 => ![256 * k.val, 0]) S256x256.size orow_inb
    (fun k => rfl) (fun k a ha => by fin_cases a; exacts [absurd rfl ha, rfl]) rfl
    (fun a ha => by fin_cases a; exacts [absurd rfl ha, rfl]) rfl

/-! ## Pieces at any contents -/

/-- A piece at some contents is its elements at some contents, -/
theorem any_elim (c : Thread nD τ) {sp : Space} {sh : Shape} {e : EltTy} (M : Memref sig c.2.kind sp sh e) :
    anyAt (F := F) c M ⊢ iprop(∃ f, M.view.loc c ↦[M.view.set]{fullShare} f) := by
  unfold anyAt owns
  iintro ⟨%X, %f, -, H⟩
  iexists f; iexact H
/-- and back. -/
theorem any_intro (c : Thread nD τ) {sp : Space} {sh : Shape} {e : EltTy} (M : Memref sig c.2.kind sp sh e) (f : M.view.ty.Contents (Elt F)) :
    (M.view.loc c ↦[M.view.set]{fullShare} f : sProp 𝕄) ⊢ anyAt (F := F) c M := by
  unfold anyAt
  iintro H
  iexists _
  iapply (owns_intro c M fullShare f) $$ H

/-- The buffer at location `ℓ`, at some contents. -/
def bufAny (ℓ : Loc nD τ sig) : sProp 𝕄 := iprop(∃ f : Buf (Elt F) ℓ, ℓ ↦{fullShare} f)

/-- A whole buffer at any contents, as a view and as a buffer, -/
theorem any_whole (c : Dev nD) (b : Ref sig .tc) : anyAt (F := F) (c : Thread nD τ) (Memref.whole b) ⊢ bufAny ((c : Thread nD τ).loc b) := by
  unfold anyAt bufAny
  iintro ⟨%X, H⟩
  iexists X
  iapply (Entails.of_eq (owns_whole (c : Thread nD τ) b fullShare X)) $$ H
/-- and back. -/
theorem whole_any (c : Dev nD) (b : Ref sig .tc) : bufAny ((c : Thread nD τ).loc b) ⊢ anyAt (F := F) (c : Thread nD τ) (Memref.whole b) := by
  unfold anyAt bufAny
  iintro ⟨%X, H⟩
  iexists X
  irw [owns_whole]; iexact H

section Family

variable {n : ℕ} (ℓ : Loc nD τ sig) (J : Fin n → Finset (Idx ℓ)) (P : Fin n → sProp (MT nD τ sig Unit (Elt F) ℕ UU ℕ))
  (hd : ∀ s s', s ≠ s' → Disjoint (J s) (J s')) (hc : Finset.univ.biUnion J = Finset.univ)

include hd hc in
/-- A buffer at some contents is its pieces, each at some contents, -/
theorem split_family (hP : ∀ s f, (ℓ ↦[J s]{fullShare} f : sProp 𝕄) ⊢ P s) : bufAny (F := F) ℓ ⊢ bigSep Finset.univ P := by
  unfold bufAny
  iintro ⟨%f, H⟩
  iapply ((Entails.of_eq (Ring.pointsTo_blocks J hd hc f)).trans (bigSep_mono fun s _ => hP s f))
  iexact H

include hd hc in
/-- and the pieces are the buffer. -/
theorem join_family (f₀ : Buf (Elt F) ℓ) (hP : ∀ s, P s ⊢ iprop(∃ f, ℓ ↦[J s]{fullShare} f)) : bigSep Finset.univ P ⊢ bufAny (F := F) ℓ := by
  unfold bufAny
  exact (bigSep_mono fun s _ => hP s).trans (Ring.pointsTo_blocks_join_exists J hd hc f₀)

end Family

variable (c : Dev nD)

/-- The send buffer as its eight slots, -/
theorem split_sends : bufAny ((c : Thread nD τ).loc cc0_scratch3) ⊢ bigSep Finset.univ fun d => anyAt (F := F) (c : Thread nD τ) (sendM d) :=
  split_family ((c : Thread nD τ).loc cc0_scratch3) (fun d => (slotR d).set) _ slot_disjoint slot_cover fun d f => by
    rw [← send_set]; exact any_intro (c : Thread nD τ) (sendM d) f
/-- and put together again; -/
theorem join_sends (f₀ : Buf (Elt F) ((c : Thread nD τ).loc cc0_scratch3)) :
    (bigSep Finset.univ fun d => anyAt (F := F) (c : Thread nD τ) (sendM d)) ⊢ bufAny ((c : Thread nD τ).loc cc0_scratch3) :=
  join_family ((c : Thread nD τ).loc cc0_scratch3) (fun d => (slotR d).set) _ slot_disjoint slot_cover f₀ fun d => by
    rw [← send_set]; exact any_elim (c : Thread nD τ) (sendM d)
/-- the receive buffer, -/
theorem split_recvs : bufAny ((c : Thread nD τ).loc cc0_scratch4) ⊢ bigSep Finset.univ fun d => anyAt (F := F) (c : Thread nD τ) (recvM d) :=
  split_family ((c : Thread nD τ).loc cc0_scratch4) (fun d => (slotR d).set) _ slot_disjoint slot_cover fun d f => by
    rw [← recv_set]; exact any_intro (c : Thread nD τ) (recvM d) f
/-- and together again; -/
theorem join_recvs (f₀ : Buf (Elt F) ((c : Thread nD τ).loc cc0_scratch4)) :
    (bigSep Finset.univ fun d => anyAt (F := F) (c : Thread nD τ) (recvM d)) ⊢ bufAny ((c : Thread nD τ).loc cc0_scratch4) :=
  join_family ((c : Thread nD τ).loc cc0_scratch4) (fun d => (slotR d).set) _ slot_disjoint slot_cover f₀ fun d => by
    rw [← recv_set]; exact any_elim (c : Thread nD τ) (recvM d)
/-- the staging buffer, -/
theorem split_stages : bufAny ((c : Thread nD τ).loc cc0_scratch2) ⊢ bigSep Finset.univ fun d => anyAt (F := F) (c : Thread nD τ) (stageM d) :=
  split_family ((c : Thread nD τ).loc cc0_scratch2) (fun d => (slotR d).set) _ slot_disjoint slot_cover fun d f => by
    rw [← stage_set]; exact any_intro (c : Thread nD τ) (stageM d) f
/-- and together again; -/
theorem join_stages (f₀ : Buf (Elt F) ((c : Thread nD τ).loc cc0_scratch2)) :
    (bigSep Finset.univ fun d => anyAt (F := F) (c : Thread nD τ) (stageM d)) ⊢ bufAny ((c : Thread nD τ).loc cc0_scratch2) :=
  join_family ((c : Thread nD τ).loc cc0_scratch2) (fun d => (slotR d).set) _ slot_disjoint slot_cover f₀ fun d => by
    rw [← stage_set]; exact any_elim (c : Thread nD τ) (stageM d)
/-- the column-block buffer as its three slots, -/
theorem split_wslots : bufAny ((c : Thread nD τ).loc cc0_scratch1) ⊢ bigSep Finset.univ fun s => anyAt (F := F) (c : Thread nD τ) (wslotM s) :=
  split_family ((c : Thread nD τ).loc cc0_scratch1) (fun s => (wslotR s).set) _ wslot_disjoint wslot_cover fun s f => by
    rw [← wslot_set]; exact any_intro (c : Thread nD τ) (wslotM s) f
/-- and together again. -/
theorem join_wslots (f₀ : Buf (Elt F) ((c : Thread nD τ).loc cc0_scratch1)) :
    (bigSep Finset.univ fun s => anyAt (F := F) (c : Thread nD τ) (wslotM s)) ⊢ bufAny ((c : Thread nD τ).loc cc0_scratch1) :=
  join_family ((c : Thread nD τ).loc cc0_scratch1) (fun s => (wslotR s).set) _ wslot_disjoint wslot_cover f₀ fun s => by
    rw [← wslot_set]; exact any_elim (c : Thread nD τ) (wslotM s)

/-! ## The right operand and the result -/

/-- Going round from a device, forwards and backwards. -/
def ahead : Fin 8 ≃ Fin 8 := ⟨fun d => c + d, fun k => k - c, fun d => by revert c d; decide, fun k => by revert c k; decide⟩
def behind : Fin 8 ≃ Fin 8 := ⟨fun d => c - d, fun k => c - k, fun d => by revert c d; decide, fun k => by revert c k; decide⟩
/-- The device as far behind `c` as `c` is from the device `d` behind it. -/
theorem behind_twice (d : Fin 8) : c - (c - d) = d := by revert c d; decide

/-- The right operand, as launched, is its column blocks. -/
theorem cols_eq : cols m c Finset.univ = (((c : Thread nD τ).loc main_arg1) ↦{fullShare} m ((c : Thread nD τ).loc main_arg1) : sProp 𝕄) := by
  rw [Ring.pointsTo_blocks (ℓ := (c : Thread nD τ).loc main_arg1) (fun k : Fin 8 => (wcolR k).set) wcol_disjoint wcol_cover]
  refine Eq.trans ?_ (bigSep_univ_equiv (ahead c) (fun k : Fin 8 => (((c : Thread nD τ).loc main_arg1) ↦[(wcolR k).set]{fullShare} m ((c : Thread nD τ).loc main_arg1) : sProp 𝕄))).symm
  unfold cols
  refine bigSep_congr fun d _ => ?_
  unfold wPts
  exact congrArg (fun S => (((c : Thread nD τ).loc main_arg1) ↦[S]{fullShare} m ((c : Thread nD τ).loc main_arg1) : sProp 𝕄)) (View.set_slice_whole _ _)

/-- The row block an element of the result lies in, and its place there. -/
def rowOf (i : S2048x256.Idx) : Fin 8 := ⟨(i 0).val / 256, by have : (i 0).val < 2048 := (i 0).isLt; omega⟩
def inRow (i : S2048x256.Idx) : S256x256.Idx := Shape.pair (d := ![256, 256]) ⟨(i 0).val % 256, Nat.mod_lt _ (by decide)⟩ ⟨(i 1).val, (i 1).isLt⟩

/-- An element of row block `k` lies in row block `k`, -/
theorem rowOf_emb (k : Fin 8) (j : S256x256.Idx) : rowOf ((orowR k).emb j) = k := by
  apply Fin.ext
  have h : (j 0).val < 256 := (j 0).isLt
  show (256 * k.val + 1 * (j 0).val) / 256 = k.val
  omega
/-- at the place it has in the block. -/
theorem inRow_emb (k : Fin 8) (j : S256x256.Idx) : inRow ((orowR k).emb j) = j := by
  have h : (j 0).val < 256 := (j 0).isLt
  refine (congrArg₂ (Shape.pair (d := ![256, 256])) (Fin.ext ?_) (Fin.ext ?_)).trans (Shape.pair_eta j)
  · show (256 * k.val + 1 * (j 0).val) % 256 = (j 0).val
    omega
  · show 0 + 1 * (j 1).val = (j 1).val
    omega

/-- The whole result of device `c`: row block `k` came from distance `c - k`. -/
def outAll : FVec F S2048x256 .f32 := fun i => outv m c (c - rowOf i) (inRow i)
/-- The same as contents of the result's buffer. -/
def outBuf : Buf (Elt F) ((c : Thread nD τ).loc main_v1) := outAll m c

/-- The row blocks, each as computed, are the result. -/
theorem rows_join : (bigSep Finset.univ fun d => owns (c : Thread nD τ) (orowM (c - d)) fullShare (outv m c d))
    ⊢ (((c : Thread nD τ).loc main_v1) ↦{fullShare} outBuf m c : sProp 𝕄) := by
  rw [← owns_whole (c : Thread nD τ) main_v1 fullShare (outBuf m c)]
  refine BIBase.Entails.trans (Entails.of_eq ?_) (owns_of_rects (c : Thread nD τ) oHbm fullShare orowR (fun _ _ => rfl) orow_disjoint orow_cover (outBuf m c))
  refine Eq.trans ?_ (bigSep_univ_equiv (behind c) _).symm
  refine bigSep_congr fun d _ => ?_
  refine congrArg (owns (c : Thread nD τ) (orowM (c - d)) fullShare) (funext fun j => ?_)
  show outv m c d j = outv m c (c - rowOf ((orowR (c - d)).emb j)) (inRow ((orowR (c - d)).emb j))
  rw [rowOf_emb, inRow_emb, behind_twice]

/-- The result's buffer is its row blocks at some contents. -/
theorem rows_split (f : Buf (Elt F) ((c : Thread nD τ).loc main_v1)) : (((c : Thread nD τ).loc main_v1) ↦{fullShare} f : sProp 𝕄)
    ⊢ bigSep Finset.univ fun d => anyAt (F := F) (c : Thread nD τ) (orowM (c - d)) := by
  refine BIBase.Entails.trans (Entails.of_eq (owns_whole (c : Thread nD τ) main_v1 fullShare f).symm) ((owns_rects (c : Thread nD τ) oHbm fullShare orowR (fun _ _ => rfl) orow_disjoint orow_cover f).trans ?_)
  refine BIBase.Entails.trans (Entails.of_eq (bigSep_univ_equiv (behind c) _)) (bigSep_mono fun d _ => ?_)
  show BIBase.Entails (PROP := sProp 𝕄) _ _
  unfold anyAt
  iintro H
  iexists _; iexact H

end Cert.Exchange
-- ==== Proof.Ghost.lean ====
/-
# The launch's ghost state

The invariants of the seventeen shared cells of every device are made at once, from the counters at zero; every device
keeps its positions, the tokens of the duties it pays itself, and the counters of its local copies. The launch's credit is
what the devices owe one another.
-/
module

public import proofs.«01_k».proof.Proof.Pieces

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Semaphores, cells and tokens by group -/

/-- The kernel's own semaphores: all its DMA semaphores. -/
abbrev osem : Fin 28 → SemLoc sig := fun i => .dma (i : DmaSem sig)

/-- They are distinct, scoped, and no others are the kernel's own. -/
theorem ownSemFacts : Pipeline.OwnSemFacts cfg0.spec osem := by decide

def eW : Fin 3 ↪ Fin 28 := ⟨fun s => wS s, by decide⟩
def eOut : Fin 8 ↪ Fin 28 := ⟨fun d => outS d, by decide⟩
def eSend : Fin 8 ↪ Fin 28 := ⟨fun d => sendS d, by decide⟩
def eRecv : Fin 8 ↪ Fin 28 := ⟨fun d => recvS d, by decide⟩

/-- The 28 DMA semaphores are the rows', the column blocks', the result's, the sends' and the receives'. -/
theorem split_dma (A : Fin 28 → sProp (MT nD τ sig Unit (Elt F) ℕ UU ℕ)) :
    bigSep Finset.univ A = iprop(A xS ∗ (bigSep Finset.univ fun s : Fin 3 => A (wS s)) ∗ (bigSep Finset.univ fun d : Fin 8 => A (outS d))
      ∗ (bigSep Finset.univ fun d : Fin 8 => A (sendS d)) ∗ (bigSep Finset.univ fun d : Fin 8 => A (recvS d))) := by
  rw [show (Finset.univ : Finset (Fin 28)) = {xS} ∪ (Finset.univ.map eW ∪ (Finset.univ.map eOut ∪ (Finset.univ.map eSend ∪ Finset.univ.map eRecv))) by decide,
    bigSep_union (by decide), bigSep_union (by decide), bigSep_union (by decide), bigSep_union (by decide), bigSep_singleton,
    bigSep_map, bigSep_map, bigSep_map, bigSep_map]
  rfl

def fSend : Fin 8 ↪ Fin 17 := ⟨kSend, by decide⟩
def fRecv : Fin 8 ↪ Fin 17 := ⟨kRecv, by decide⟩

/-- The seventeen shared cells of a device are its barrier cell, its send cells and its receive cells. -/
theorem split_shared (A : Fin 17 → sProp (MT nD τ sig Unit (Elt F) ℕ UU ℕ)) :
    bigSep Finset.univ A = iprop(A 0 ∗ (bigSep Finset.univ fun d : Fin 8 => A (kSend d)) ∗ (bigSep Finset.univ fun d : Fin 8 => A (kRecv d))) := by
  rw [show (Finset.univ : Finset (Fin 17)) = {0} ∪ (Finset.univ.map fSend ∪ Finset.univ.map fRecv) by decide,
    bigSep_union (by decide), bigSep_union (by decide), bigSep_singleton, bigSep_map, bigSep_map]
  rfl

/-- A statement about every shared cell, by group. -/
theorem split_cells (c : Dev nD) (A : GSem nD τ sig → sProp (MT nD τ sig Unit (Elt F) ℕ UU ℕ)) :
    (bigSep Finset.univ fun k : Fin 17 => A (kcell (c, k)))
      = iprop(A (barC c) ∗ (bigSep Finset.univ fun d => A (sendC c d)) ∗ (bigSep Finset.univ fun d => A (recvC c d))) := by
  rw [split_shared fun k => A (kcell (c, k))]
  simp only [kcell_send, kcell_recv]
  rfl

/-- The shared cells are distinct. -/
theorem kcell_injective : Function.Injective (kcell : Dev nD × Fin 17 → GSem nD τ sig) := by
  rintro ⟨c, k⟩ ⟨c', k'⟩ h
  have h1 : c = c' := congrArg (fun g : GSem nD τ sig => g.1.1) h
  have h2 : csem k = csem k' := congrArg Prod.snd h
  have h3 : ∀ k k' : Fin 17, csem k = csem k' → k = k' := by decide
  rw [h1, h3 k k' h2]

def ringCells : Finset (GSem nD τ sig) := Finset.univ.map ⟨kcell, kcell_injective⟩

/-- The tokens of a device's own cells: kind 0 its barrier's eight, kind 1 one for each send cell, kind 2 one for each receive cell. -/
abbrev semTok (x : Fin 3 × Fin 8) : SemLoc sig × Fin 8 :=
  if x.1 = 0 then (.reg barS, x.2) else if x.1 = 1 then (.dma (sendS x.2), 0) else (.dma (recvS x.2), 0)
abbrev tokOf (x : Dev nD × Fin 3 × Fin 8) : GSem nD τ sig × ℕ × Fin 8 := (((x.1 : Thread nD τ), (semTok x.2).1), 0, (semTok x.2).2)

/-- The duties' tokens are distinct. -/
theorem tokOf_injective : Function.Injective (tokOf : Dev nD × Fin 3 × Fin 8 → GSem nD τ sig × ℕ × Fin 8) := by
  rintro ⟨c, x⟩ ⟨c', x'⟩ h
  have h1 : c = c' := congrArg (fun y : GSem nD τ sig × ℕ × Fin 8 => y.1.1.1) h
  have h2 : semTok x = semTok x' := Prod.ext (congrArg (fun y : GSem nD τ sig × ℕ × Fin 8 => y.1.2) h) (congrArg (fun y : GSem nD τ sig × ℕ × Fin 8 => y.2.2) h)
  have h3 : ∀ x x' : Fin 3 × Fin 8, semTok x = semTok x' → x = x' := by decide
  rw [h1, h3 x x' h2]

def ringToks : Finset (GSem nD τ sig × ℕ × Fin 8) := Finset.univ.map ⟨tokOf, tokOf_injective⟩

def u₀ : UU := (initOf (Pipeline.cells cfgs cellOf_inj) (Pipeline.launchToks cfgs cellOf_inj), (initOf ringCells ringToks, 1))

/-- The tokens of the duties of device `c`'s own cells. -/
def toks (c : Dev nD) : sProp 𝕄 :=
  iprop((bigSep Finset.univ fun e => dutyTok ER (barC c) 0 e) ∗ (bigSep Finset.univ fun d => dutyTok ER (sendC c d) 0 0)
    ∗ (bigSep Finset.univ fun d => dutyTok ER (recvC c d) 0 0))

/-- What the launch element deals device `c`: its shared cells' round states and positions, and its tokens. -/
def G (c : Dev nD) : sProp 𝕄 :=
  iprop((bigSep Finset.univ fun k : Fin 17 => roundState ER (Rd m) (kcell (c, k)) 0)
    ∗ ((bigSep Finset.univ fun k : Fin 17 => reached ER (kcell (c, k)) 0) ∗ (bigSep Finset.univ fun k : Fin 17 => atPos ER (kcell (c, k)) 0 ∅ 0)) ∗ toks c)

/-- The launch element, dealt device by device. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 17 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    rw [bigSep_univ_prod, three_split]
    rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hr'] <;> iassumption
  iexact Htok'

/-! ## From the counters to the invariants -/

/-- The kernel's own counters at zero are the local copies' counters, the send cells and the receive cells at zero. -/
theorem ownSems0_eq (c : Dev nD) : (Pipeline.ownSems0 (Ix := Unit) (Name := ℕ) (U := UU) (Lvl := ℕ) (Val := Elt F) (τ := τ) osem c : sProp 𝕄)
    = iprop(semVal ((c : Thread nD τ), .dma xS) 0 ∗ (bigSep Finset.univ fun s => semVal ((c : Thread nD τ), .dma (wS s)) 0)
      ∗ (bigSep Finset.univ fun d => semVal ((c : Thread nD τ), .dma (outS d)) 0)
      ∗ (bigSep Finset.univ fun d => semVal (sendC c d) 0) ∗ (bigSep Finset.univ fun d => semVal (recvC c d) 0)) := by
  unfold Pipeline.ownSems0
  exact split_dma fun i => semVal ((c : Thread nD τ), .dma (i : DmaSem sig)) 0
/-- The one counter that outlives the kernel is the barrier's. -/
theorem unscopedSems0_eq (c : Dev nD) : (unscopedSems0 c : sProp 𝕄) = semVal (barC c) 0 := by
  unfold unscopedSems0; rw [bigSep_eq_bigSepL_of_eq [SemLoc.reg barS] (by decide) (by decide)]; rfl

/-- The counters of the local copies. -/
def locals (c : Dev nD) : sProp 𝕄 :=
  iprop(semVal ((c : Thread nD τ), .dma xS) 0 ∗ (bigSep Finset.univ fun s => semVal ((c : Thread nD τ), .dma (wS s)) 0)
    ∗ (bigSep Finset.univ fun d => semVal ((c : Thread nD τ), .dma (outS d)) 0))

/-- Both together: the shared cells' counters and the local ones. -/
theorem sems0_eq (c : Dev nD) :
    iprop(Pipeline.ownSems0 (Ix := Unit) (Name := ℕ) (U := UU) (Lvl := ℕ) (Val := Elt F) (τ := τ) osem c ∗ unscopedSems0 c)
      ⊢ (iprop(locals c ∗ bigSep Finset.univ fun k : Fin 17 => semVal (kcell (c, k)) 0) : sProp 𝕄) := by
  rw [ownSems0_eq, unscopedSems0_eq, split_cells c fun g => (semVal g 0 : sProp 𝕄)]
  unfold locals
  iintro ⟨⟨Hx, Hw, Ho, Hs, Hr⟩, Hb⟩
  isplitl [Hx Hw Ho]
  · isplitl [Hx]; · iexact Hx
    isplitl [Hw] <;> iassumption
  isplitl [Hb]; · iexact Hb
  isplitl [Hs] <;> iassumption

/-- One device's invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop((∃ κ : ℕ, cellInv ER (Rd m) κ (kcell (c, k))) ∗ reached ER (kcell (c, k)) 0))
          ∗ ((bigSep Finset.univ fun k => atPos ER (kcell (c, k)) 0 ∅ 0) ∗ locals c) ∗ toks c) := by
  unfold G
  iintro ⟨Hos, Hus, Hst, ⟨Hr, Hat⟩, Htok⟩
  ihave Hv := (sems0_eq (F := F) c) $$ [Hos Hus]
  · isplitl [Hos] <;> iassumption
  icases Hv with ⟨Hloc, Hv⟩
  imod (show iprop((bigSep Finset.univ fun k : Fin 17 => semVal (kcell (c, k)) 0) ∗ bigSep Finset.univ fun k : Fin 17 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  rw [bigSep_sep']
  isplitl [Hinv Hr]
  · isplitl [Hinv] <;> iassumption
  isplitl [Hat Hloc]
  · isplitl [Hat] <;> iassumption
  iexact Htok

/-! ## Dealing the tokens round -/

/-- The tokens of the duties that device `c` pays. -/
def payToks (c : Dev nD) : sProp 𝕄 :=
  iprop((bigSep away fun d => dutyTok ER (barC (c + d)) 0 (-d)) ∗ (bigSep away fun d => dutyTok ER (sendC c d) 0 0)
    ∗ (bigSep away fun d => dutyTok ER (recvC (c + d) d) 0 0))

/-- Every device, seen at a distance `d`. -/
def turn (d : Fin 8) : Dev nD ≃ Dev nD :=
  ⟨fun c => c + d, fun c => (c - d : Fin 8), fun c => by revert c d; decide, fun c => by revert c d; decide⟩
def opposite : Fin 8 ≃ Fin 8 := ⟨fun d => -d, fun d => -d, fun d => by revert d; decide, fun d => by revert d; decide⟩

/-- What is dealt for every device and distance may be dealt to the device that far back. -/
theorem deal_back (A : Dev nD → Fin 8 → sProp (MT nD τ sig Unit (Elt F) ℕ UU ℕ)) :
    (bigSep Finset.univ fun c : Dev nD => bigSep Finset.univ fun d : Fin 8 => A c d)
      = bigSep Finset.univ fun c : Dev nD => bigSep Finset.univ fun d : Fin 8 => A (c + d) d := by
  rw [bigSep_univ_comm, bigSep_univ_comm fun (c : Dev nD) (d : Fin 8) => A (c + d) d]
  exact bigSep_congr fun d _ => bigSep_univ_equiv (turn d) fun c => A c d

/-- The distances away are among all. -/
theorem keep_away (A : Fin 8 → sProp (MT nD τ sig Unit (Elt F) ℕ UU ℕ)) : bigSep Finset.univ A ⊢ bigSep away A :=
  bigSep_subset (Finset.subset_univ _)

/-- The tokens of each device's own cells, dealt to the devices that pay them. -/
theorem toks_around : (bigSep Finset.univ fun c : Dev nD => (toks c : sProp 𝕄)) ⊢ bigSep Finset.univ fun c : Dev nD => payToks c := by
  have hb : (bigSep Finset.univ fun c : Dev nD => bigSep Finset.univ fun e : Fin 8 => (dutyTok ER (barC c) 0 e : sProp 𝕄))
      = bigSep Finset.univ fun c : Dev nD => bigSep Finset.univ fun d : Fin 8 => dutyTok ER (barC (c + d)) 0 (-d) :=
    (bigSep_congr fun c _ => bigSep_univ_equiv opposite fun e => (dutyTok ER (barC c) 0 e : sProp 𝕄)).trans
      (deal_back fun c d => dutyTok ER (barC c) 0 (-d))
  unfold toks
  rw [bigSep_sep', bigSep_sep', hb, deal_back fun c d => dutyTok ER (recvC c d) 0 0, ← bigSep_sep', ← bigSep_sep']
  refine bigSep_mono fun c _ => ?_
  show BIBase.Entails (PROP := sProp 𝕄) _ _
  unfold payToks
  iintro ⟨H1, H2, H3⟩
  isplitl [H1]; · iapply (keep_away _) $$ H1
  isplitl [H2]; · iapply (keep_away _) $$ H2
  iapply (keep_away _) $$ H3

/-- What stays with device `c`. -/
def linear (c : Dev nD) : sProp 𝕄 :=
  iprop(((bigSep Finset.univ fun k : Fin 17 => atPos ER (kcell (c, k)) 0 ∅ 0) ∗ locals c) ∗ payToks c)
/-- What the launch's step over all devices makes of each one's share. -/
def G' (c : Dev nD) : sProp 𝕄 := iprop(∃ K, records m K ∗ linear c)

/-- What may be used again and again goes along with every part of a family. -/
theorem with_persistent {I : Type} [DecidableEq I] {S : Finset I} {R : sProp 𝕄} [BI.Persistent R] {Φ Ψ : I → sProp (MT nD τ sig Unit (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- From every device's cells and tokens, as launched, to every device's share of the protocol. -/
theorem regroup :
    (bigSep Finset.univ fun c : Dev nD => iprop((bigSep Finset.univ fun k : Fin 17 => iprop((∃ κ : ℕ, cellInv ER (Rd m) κ (kcell (c, k))) ∗ reached ER (kcell (c, k)) 0))
          ∗ ((bigSep Finset.univ fun k => atPos ER (kcell (c, k)) 0 ∅ 0) ∗ locals c) ∗ toks c) : sProp 𝕄)
      ⊢ bigSep Finset.univ (G' m) := by
  rw [bigSep_sep', bigSep_sep', ← bigSep_univ_prod (fun ck : Dev nD × Fin 17 => iprop((∃ κ : ℕ, cellInv ER (Rd m) κ (kcell ck)) ∗ reached ER (kcell ck) 0)), bigSep_sep']
  iintro ⟨⟨HI, #HR⟩, Hlin, Htok⟩
  ihave HK := (BI.bigSep_exists_pi Finset.univ (fun (ck : Dev nD × Fin 17) (κ : ℕ) => (cellInv ER (Rd m) κ (kcell ck) : sProp 𝕄))) $$ HI
  icases HK with ⟨%K, #HI⟩
  ihave Htk := (toks_around (F := F)) $$ Htok
  iapply (with_persistent (R := records m K) (Φ := linear) fun c _ => show iprop(records m K ∗ linear c) ⊢ G' m c from by
    unfold G'; iintro H; iexists K; iexact H)
  isplitr
  · unfold records; irw [bigSep_sep']
    isplitr; · iexact HI
    iexact HR
  · unfold linear; irw [bigSep_sep']
    isplitl [Hlin]; · iexact Hlin
    iexact Htk

/-- The step over all devices. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- A barrier cell names its device, -/
theorem bar_inj {a b : Dev nD} (h : barC a = barC b) : a = b := congrArg (fun g : GSem nD τ sig => g.1.1) h
/-- and a receive cell its device and distance. -/
theorem recv_inj {a b : Dev nD} {d e : Fin 8} (h : recvC a d = recvC b e) : a = b ∧ d = e :=
  ⟨congrArg (fun g : GSem nD τ sig => g.1.1) h, by
    have h' : (SemLoc.dma (recvS d) : SemLoc sig) = .dma (recvS e) := congrArg Prod.snd h
    clear h; revert d e; decide⟩

/-- What device `b` owes the barrier cell of `c`, and its receive cell `e`. -/
theorem owed_bar (b c : Dev nD) : O₀ b (barC c) () = ∑ d ∈ away, if c = b + d then 1 else 0 := by
  unfold O₀ owedR owedB
  rw [Pi.add_apply, Finsupp.add_apply, sum_apply, sum_apply, Finset.sum_eq_zero fun d _ => ?_, Nat.zero_add]
  · refine Finset.sum_congr rfl fun d _ => ?_
    rw [tallyAt_apply]
    by_cases h : c = b + d
    · rw [if_pos h, if_pos ⟨by rw [h], rfl⟩]
    · rw [if_neg h, if_neg fun h' => h (bar_inj h'.1)]
  · rw [tallyAt_apply]
    exact if_neg fun h => by have := congrArg Prod.snd h.1; cases this
/-- What a device owes a receive cell at the launch, as a sum over distances. -/
theorem owed_recv (b c : Dev nD) (e : Fin 8) : O₀ b (recvC c e) () = ∑ d ∈ away, N * (if c = b + d ∧ e = d then 1 else 0) := by
  unfold O₀ owedR owedB
  rw [Pi.add_apply, Finsupp.add_apply, sum_apply, sum_apply, Finset.sum_eq_zero (f := fun d => tallyAt (barC (b + d)) () 1 (recvC c e) ()) fun d _ => ?_, Nat.add_zero]
  · refine Finset.sum_congr rfl fun d _ => ?_
    rw [tallyAt_apply]
    by_cases h : c = b + d ∧ e = d
    · rw [if_pos h, if_pos ⟨by rw [h.1, h.2], rfl⟩, Nat.mul_one]
    · rw [if_neg h, if_neg fun h' => h (recv_inj h'.1), Nat.mul_zero]
  · rw [tallyAt_apply]
    exact if_neg fun h => by have := congrArg Prod.snd h.1; cases this

/-- At the launch a barrier cell is owed seven units in all, -/
theorem launch_bar (c : Dev nD) :
    tallyOn (barC c) (launchCredit (Pipeline.owing O₀) 0 (barC c)) = (tallyAt (barC c) () 7 : CellTallies nD τ sig Unit) := by
  unfold tallyAt; refine congrArg _ (Finsupp.ext fun u => ?_); cases u
  rw [Pipeline.launchCredit_owing, Finsupp.single_eq_same, Finset.sum_congr rfl fun b _ => owed_bar b c]
  revert c; decide
/-- and a receive cell one tile. -/
theorem launch_recv (c : Dev nD) (e : Fin 8) (he : e ∈ away) :
    tallyOn (recvC c e) (launchCredit (Pipeline.owing O₀) 0 (recvC c e)) = (tallyAt (recvC c e) () N : CellTallies nD τ sig Unit) := by
  unfold tallyAt; refine congrArg _ (Finsupp.ext fun u => ?_); cases u
  rw [Pipeline.launchCredit_owing, Finsupp.single_eq_same, Finset.sum_congr rfl fun b _ => (owed_recv b c e).trans (Finset.mul_sum _ _ _).symm, ← Finset.mul_sum,
    show (∑ b : Dev nD, ∑ d ∈ away, if c = b + d ∧ e = d then 1 else 0) = 1 by revert c e; decide, Nat.mul_one]

def recvLoc : Fin 8 ↪ SemLoc sig := ⟨fun d => .dma (recvS d), by decide⟩

/-- So each device gets seven units of credit at its barrier and a tile's at each receive cell. -/
theorem creds (c : Dev nD) :
    (Pipeline.launchCred O₀ c : sProp 𝕄) ⊢ iprop(cred (tallyAt (barC c) () 7) ∗ bigSep away fun d => cred (tallyAt (recvC c d) () N)) := by
  unfold Pipeline.launchCred
  rw [bigSep_univ_at _ (SemLoc.reg barS), launch_bar]
  refine sep_mono_right ?_
  refine BIBase.Entails.trans (bigSep_subset (show Finset.map recvLoc away ⊆ _ from fun sm h => ?_)) ?_
  · obtain ⟨d, hd, rfl⟩ := Finset.mem_map.mp h
    exact Finset.mem_erase.mpr ⟨(by intro h; cases h), Finset.mem_univ _⟩
  · rw [bigSep_map]
    exact Entails.of_eq (bigSep_congr fun d hd => congrArg cred (launch_recv c d hd))

end Cert.Exchange
-- ==== Proof.Run.lean ====
/-
# The kernel's run

What a device holds at the launch is what the body starts from, what the body ends with is what the launch takes back; so
every execution on the eight devices ends with each device's result as `outBuf` says, its operands as they were and every
counter at zero.
-/
module

public import proofs.«01_k».proof.Proof.Ghost
public import Idealize.ShloMosaic.Lib.Pipeline.CollectiveSegs

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (ρ : Dev nD → PrngReg)

/-! ## Before and after the one point -/

/-- The scratch buffers, at whatever contents. -/
def scratch (c : Dev nD) : sProp 𝕄 :=
  iprop(bufAny ((c : Thread nD τ).loc cc0_scratch0) ∗ bufAny ((c : Thread nD τ).loc cc0_scratch1) ∗ bufAny ((c : Thread nD τ).loc cc0_scratch2)
    ∗ bufAny ((c : Thread nD τ).loc cc0_scratch3) ∗ bufAny ((c : Thread nD τ).loc cc0_scratch4))

/-- A device's operands and result as launched. -/
def arrays (c : Dev nD) : sProp 𝕄 :=
  iprop((((c : Thread nD τ).loc main_arg0) ↦{fullShare} m ((c : Thread nD τ).loc main_arg0)) ∗ (((c : Thread nD τ).loc main_arg1) ↦{fullShare} m ((c : Thread nD τ).loc main_arg1))
    ∗ (((c : Thread nD τ).loc main_v1) ↦{fullShare} m ((c : Thread nD τ).loc main_v1)))
/-- The same with the result computed. -/
def results (c : Dev nD) : sProp 𝕄 :=
  iprop((((c : Thread nD τ).loc main_arg0) ↦{fullShare} m ((c : Thread nD τ).loc main_arg0)) ∗ (((c : Thread nD τ).loc main_arg1) ↦{fullShare} m ((c : Thread nD τ).loc main_arg1))
    ∗ (((c : Thread nD τ).loc main_v1) ↦{fullShare} outBuf m c))

/-- What the launch deals device `c`, but for its scratch buffers. -/
def start (c : Dev nD) : sProp 𝕄 :=
  iprop(G' m c ∗ levAts L lv ∗ (cred (tallyAt (barC c) () 7) ∗ bigSep away fun d => cred (tallyAt (recvC c d) () N)) ∗ arrays m c)

/-- Before the point. -/
def Φ₀ (c : Dev nD) : sProp 𝕄 := iprop(start m c ∗ scratch c)
/-- After it: everything computed, every counter at zero. -/
def Φ₁ (c : Dev nD) : sProp 𝕄 :=
  iprop((semVal (barC c) 0 ∗ results m c) ∗ (locals c ∗ (bigSep Finset.univ fun d => semVal (sendC c d) 0) ∗ (bigSep Finset.univ fun d => semVal (recvC c d) 0)) ∗ scratch c)

def dats (_ : Fin 1) (c : Dev nD) : Pipeline.Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The body starts from what the launch dealt. -/
theorem before_intro (c : Dev nD) : iprop(Φ₀ m c ∗ debt c away away) ⊢ iprop(∃ K, before m K c) := by
  unfold Φ₀ start G' linear payToks locals arrays scratch before
  rw [split_cells c fun g => (atPos ER g 0 ∅ 0 : sProp 𝕄), cols_eq,
    show (owns (c : Thread nD τ) xHbm fullShare (xv m c) : sProp 𝕄) = (((c : Thread nD τ).loc main_arg0) ↦{fullShare} m ((c : Thread nD τ).loc main_arg0)) from owns_whole (c : Thread nD τ) main_arg0 fullShare _]
  iintro ⟨⟨⟨⟨%K, #Hrec, ⟨⟨Hpb, Hps, Hpr⟩, Hx, Hw, Ho⟩, Htb, Hts, Htr⟩, Hlev, ⟨Hcb, Hcr⟩, H0, H1, Hv⟩, Hs0, Hs1, Hs2, Hs3, Hs4⟩, Hd⟩
  ihave Hs0 := (whole_any c cc0_scratch0) $$ Hs0
  ihave Hs1 := (split_wslots c) $$ Hs1
  ihave Hs2 := (split_stages c) $$ Hs2
  ihave Hs3 := (split_sends c) $$ Hs3
  ihave Hs4 := (split_recvs c) $$ Hs4
  ihave Hv := (rows_split c _) $$ Hv
  iexists K
  isplitr; · iexact Hrec
  isplitl [Hlev]; · iexact Hlev
  isplitl [Hd]; · iexact Hd
  isplitl [Hcb]; · iexact Hcb
  isplitl [Hpb]; · iexact Hpb
  isplitl [Htb]; · iexact Htb
  isplitl [Hts]; · iexact Hts
  isplitl [Htr]; · iexact Htr
  isplitl [Hcr]; · iexact Hcr
  isplitl [Hps]; · iexact Hps
  isplitl [Hpr]; · iexact Hpr
  isplitl [H0]; · iexact H0
  isplitl [H1]; · iexact H1
  isplitl [Hv]; · iexact Hv
  isplitl [Hs0]; · iexact Hs0
  isplitl [Hs1]; · iexact Hs1
  isplitl [Hs2]; · iexact Hs2
  isplitl [Hs3]; · iexact Hs3
  isplitl [Hs4]; · iexact Hs4
  isplitl [Hx]; · iexact Hx
  isplitl [Hw] <;> iassumption

/-- What the body ends with is the state after the point. -/
theorem after_elim (c : Dev nD) : after m c ⊢ iprop(Φ₁ m c ∗ debt c ∅ ∅) := by
  unfold Φ₁ results locals scratch after
  rw [cols_eq,
    show (owns (c : Thread nD τ) xHbm fullShare (xv m c) : sProp 𝕄) = (((c : Thread nD τ).loc main_arg0) ↦{fullShare} m ((c : Thread nD τ).loc main_arg0)) from owns_whole (c : Thread nD τ) main_arg0 fullShare _]
  iintro ⟨Hd, H0, H1, Hv, Hs0, Hs1, Hs2, Hs3, Hs4, Hx, Hw, Ho, Hb, Hs, Hr⟩
  ihave Hs0 := (any_whole c cc0_scratch0) $$ Hs0
  ihave Hs1 := (join_wslots c (m _)) $$ Hs1
  ihave Hs2 := (join_stages c (m _)) $$ Hs2
  ihave Hs3 := (join_sends c (m _)) $$ Hs3
  ihave Hs4 := (join_recvs c (m _)) $$ Hs4
  ihave Hv := (rows_join m c) $$ Hv
  isplitr [Hd]
  · isplitl [Hb H0 H1 Hv]
    · isplitl [Hb]; · iexact Hb
      isplitl [H0]; · iexact H0
      isplitl [H1] <;> iassumption
    isplitl [Hx Hw Ho Hs Hr]
    · isplitl [Hx Hw Ho]
      · isplitl [Hx]; · iexact Hx
        isplitl [Hw] <;> iassumption
      isplitl [Hs] <;> iassumption
    isplitl [Hs0]; · iexact Hs0
    isplitl [Hs1]; · iexact Hs1
    isplitl [Hs2]; · iexact Hs2
    isplitl [Hs3] <;> iassumption
  iexact Hd

/-- The core's debt as the launch states it, -/
theorem owes_start (c : Dev nD) (t : Fin cfg0.N) : (dats m 0 c).owesAt () t.castSucc ⊢ debt c away away := by
  rw [fin_N0 t]
  unfold Pipeline.Dat.owesAt Pipeline.owesWithin debt
  rw [show (dats m 0 c).owed t0_0.castSucc = O₀ c from rfl]
  iintro ⟨%W, -, HO⟩
  iexists W
  iexact HO
/-- and at the end. -/
theorem owes_end (c : Dev nD) (t : Fin cfg0.N) : debt c ∅ ∅ ⊢ (dats m 0 c).owesAt () t.succ := by
  rw [fin_N0 t]
  unfold Pipeline.Dat.owesAt Pipeline.owesWithin debt
  rw [show (dats m 0 c).owed t0_0.succ = 0 from rfl, show owedR c ∅ + owedB c ∅ = 0 from add_zero _]
  iintro ⟨%W, HO⟩
  iexists W
  isplitr; · ipureintro; exact fun _ _ => Or.inl trivial
  iexact HO

/-- The body takes the state before it to the state after it. -/
theorem body_obligation (c : Dev nD) : Pipeline.BodyObligation (dats (F := F) m 0 c) (defs₀ (F := F)) 𝒱₀ () Set.univ := fun t => by
  rw [show (Finset.univ : Finset (Fin cfg0.W)) = ∅ from rfl, bigSep_empty, bigSep_empty,
    show (dats m 0 c).Φ t.castSucc = Φ₀ m c from by rw [fin_N0 t]; rfl, show (dats m 0 c).Φ t.succ = Φ₁ m c from by rw [fin_N0 t]; rfl]
  iintro ⟨HΦ, Ho, -⟩
  ihave Hd := (owes_start m c t) $$ Ho
  ihave HB := (before_intro m c) $$ [HΦ Hd]
  · isplitl [HΦ] <;> iassumption
  icases HB with ⟨%K, HB⟩
  iapply (body_run m K c t _) $$ HB
  iintro HA
  ihave HA := (after_elim m c) $$ HA
  icases HA with ⟨HΦ, Hd⟩
  ihave Ho := (owes_end m c t) $$ Hd
  isplitl [HΦ]; · iexact HΦ
  isplitl [Ho]; · iexact Ho
  iempintro

/-! ## The launch's side conditions -/

/-- The launch's share of a device is what its run starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Ha, Hlev, Hcr, -, HG⟩
  ihave Hc := (creds (F := F) c) $$ Hcr
  imodintro
  unfold start arrays
  isplitl
  · isplitl [HG]; · iexact HG
    isplitl [Hlev]; · iexact Hlev
    isplitl [Hc] <;> iassumption
  · iempintro

/-- With the scratch buffers it is the state before the body. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch bufAny
  iintro ⟨Hs, -, Hr⟩
  isplitl [Hs] <;> iassumption

/-- The state after the body gives the results, the counters at zero and the scratch buffers back. -/
theorem phi1_exit (c : Dev nD) :
    (dats m 0 c).Φ (Fin.last cfg0.N) ⊢ iprop((unscopedSems0 c ∗ results m c) ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁ scratch bufAny locals
  iintro ⟨Hb, ⟨⟨Hx, Hw, Ho⟩, Hs, Hr⟩, Hscr⟩
  isplitl [Hb]; · iexact Hb
  isplitl [Hx Hw Ho Hs Hr]
  · isplitl [Hx]; · iexact Hx
    isplitl [Hw]; · iexact Hw
    isplitl [Ho]; · iexact Ho
    isplitl [Hs] <;> iassumption
  iexact Hscr

/-- What a final memory says about device `c`: its operands as launched, its result computed. -/
def Done (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_v1) = outBuf m c

/-- The results and the counters, read off the final memory. -/
theorem results_read (c : Dev nD) (s' : Phys nD τ sig (Elt F)) :
    iprop((unscopedSems0 c ∗ results m c) ∗ emp ∗ SI s')
      ⊢ |={Set.univ}=> (iprop(⌜Done m c s'.mem ∧ ∀ sm : SemLoc sig, sm.isScoped .tc = false → s'.mem.sem ((c.tc : Thread nD τ), sm) = 0⌝ ∗ SI s') : sProp 𝕄) := by
  unfold results Done
  iintro ⟨⟨Hu, H0, H1, Hv⟩, -, HSI⟩
  icombine HSI H0 gives %h0
  icombine HSI H1 gives %h1
  icombine HSI Hv gives %hv
  imod (Pipeline.unscopedSems0_read (X := unscopedSems0 c) (c := c) fupd_intro s') $$ [Hu HSI] with ⟨%hs, HSI⟩
  · isplitl [Hu] <;> iassumption
  imodintro
  isplitr
  · ipureintro
    exact ⟨⟨Buf.eq_of_forall_mem_univ h0, Buf.eq_of_forall_mem_univ h1, Buf.eq_of_forall_mem_univ hv⟩, hs⟩
  iexact HSI

set_option maxRecDepth 8000 in
/-- On eight devices, for any float values, from any memory with zero counters: every weakly fair execution of @main
    terminates, and every final state has each device's operands as they were, its result as computed and every counter at zero. -/
theorem run_main : θ_run defs (onTc (τ := τ) (main (F := F))) (s₀ m ρ) (fun r => (∀ c, Done m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne)
    (hwaits := fun c => Pipeline.cellsWaits_intro cfgs (dats m) () 0 c fun w s t => w.elim0)
    (G := G m) (G' := G' m) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      imod (fund_ring m) $$ HX with HG
      imodintro
      isplitl [HP] <;> iassumption)
    (hglob := glob m)
    (hA := fun _ w => w.elim0) (hpf := fun _ k => k.elim0)
    (X := start m) (Y := fun c => iprop(unscopedSems0 c ∗ results m c)) (Z := fun _ => iprop(emp))
    (hX := start_intro m ρ) (hin := phi0_intro m) (hout := phi1_exit m)
    (QY := fun c s => Done m c s ∧ ∀ sm : SemLoc sig, sm.isScoped .tc = false → s.sem ((c.tc : Thread nD τ), sm) = 0)
    (hY := results_read m)
    (hQ := fun _ h hs => ⟨fun c => (h c).2.2.1, sem_eq_zero hs fun c => (h c).2.2.2⟩)

end Cert.Exchange
-- ==== Proof.Silu.lean ====
/-
# The activation

The kernel multiplies by the logistic function; the reference divides by `1 + exp(-y)` with `y` clipped to [-60, 60]. Over the
extended reals the two agree wherever nothing is clipped.
-/
module

public import Idealize.ShloMosaic.PureOps.Ideal
public import Idealize.ShloMosaic.Lib.IdealHost
public import Idealize.ShloMosaic.Lib.ValueIdxCore

@[expose] public section

noncomputable section

namespace Cert.Exchange

open Idealize.ShloMosaic Idealize.ShloMosaic.ValueIdx

/-- The upper bound of the reference's clip. -/
theorem word_sixty : Ideal.ofBits .f32 0x42700000#32 = ((60 : ℝ) : EReal) := by
  simp [Ideal.ofBits, Ideal.ieee, -EReal.coe_mul]; norm_num
/-- The clip's lower bound. -/
theorem word_neg_sixty : Ideal.ofBits .f32 0xC2700000#32 = ((-60 : ℝ) : EReal) := by
  simp [Ideal.ofBits, Ideal.ieee, -EReal.coe_mul, -EReal.coe_neg]; norm_num

/-- The kernel's activation, -/
def silu (y : EReal) : EReal := y * Ideal.logistic y
/-- and the reference's. -/
def refAct (y : EReal) : EReal :=
  Ideal.div y (1 + Ideal.exp (-min ((60 : ℝ) : EReal) (max ((-60 : ℝ) : EReal) y)))

/-- Where nothing is clipped they are one function. -/
theorem refAct_eq {y : EReal} (h : max y (-y) ≤ ((60 : ℝ) : EReal)) : refAct y = silu y := by
  have h1 : y ≤ ((60 : ℝ) : EReal) := (le_max_left _ _).trans h
  have h2 : ((-60 : ℝ) : EReal) ≤ y := by
    rw [EReal.coe_neg]
    exact EReal.neg_le.mp ((le_max_right _ _).trans h)
  have hc : min ((60 : ℝ) : EReal) (max ((-60 : ℝ) : EReal) y) = y := by rw [max_eq_right h2, min_eq_right h1]
  unfold refAct silu
  rw [hc]
  lift y to ℝ using ⟨ne_top_of_le_ne_top (EReal.coe_ne_top _) h1, ne_bot_of_le_ne_bot (EReal.coe_ne_bot _) h2⟩
  have hd : (1 : EReal) + Ideal.exp (-(y : EReal)) = ((1 + Real.exp (-y) : ℝ) : EReal) := by
    rw [← EReal.coe_neg, Ideal.exp_coe, ← EReal.coe_one, ← EReal.coe_add]
  have hp : (0 : ℝ) < 1 + Real.exp (-y) := by positivity
  rw [hd, Ideal.div_coe hp.ne', Ideal.logistic_coe, one_div]

/-! ## Rows times columns -/

/-- A row of `x` times a column of `w`. -/
def dotRow {n k : ℕ} (x : FVec Ideal ⟨2, ![n, 2048]⟩ .f32) (w : FVec Ideal ⟨2, ![2048, k]⟩ .f32) (a : Fin n) (b : Fin k) : EReal :=
  ∑ t : Fin 2048, x (ix2 a t) * w (ix2 t b)

end Cert.Exchange

end
-- ==== Proof.Reference.lean ====
/-
# The reference

A straight line of array operations: its result buffer ends at their composition, which is read here at an index.
-/
module

public import proofs.«01_k».proof.Proof.Silu
public import proofs.«01_k».proof.Proof.Gen.ReferenceIdeal
public import proofs.«01_k».proof.Proof.Gen.ReferenceIdeal.Run
public import Idealize.ShloMosaic.Lib.StackMember
public import Idealize.ShloMosaic.Lib.Quiescent

@[expose] public section

noncomputable section

namespace Cert.Exchange

open Cert.ReferenceIdeal Cert.ReferenceIdeal.Gen
open Idealize.ShloMosaic Idealize.ShloMosaic.TcCoe Idealize.ShloMosaic.ValueIdx Idealize.SL.Sem

/-- The reference's result as its program composes it, -/
def refOut (X W : FVec Ideal S2048x2048 .f32) : FVec Ideal S2048x2048 .f32 :=
  Host.divf (Host.dotGeneral dot_S2048x2048_S2048x2048_S2048x2048_1_0_0_1_n_n none X W)
    (addf (broadcastInDim S2048x2048 ![] bcast_S_S2048x2048 (constant S_ .f32 0x3F800000#32))
      (Host.exp (Host.negf (minimumf (broadcastInDim S2048x2048 ![] bcast_S_S2048x2048 (id (constant S_ .f32 0x42700000#32)))
        (maximumf (broadcastInDim S2048x2048 ![] bcast_S_S2048x2048 (id (constant S_ .f32 0xC2700000#32)))
          (Host.dotGeneral dot_S2048x2048_S2048x2048_S2048x2048_1_0_0_1_n_n none X W))))))

/-- and at an index. -/
theorem refOut_apply (X W : FVec Ideal S2048x2048 .f32) (a b : Fin 2048) : refOut X W (ix2 a b) = refAct (dotRow X W a b) := by
  have hd : Host.dotGeneral dot_S2048x2048_S2048x2048_S2048x2048_1_0_0_1_n_n none X W (ix2 a b) = dotRow X W a b :=
    StackMember.dotGeneral_plain_apply none X W a b
  show Ideal.div (Host.dotGeneral dot_S2048x2048_S2048x2048_S2048x2048_1_0_0_1_n_n none X W (ix2 a b))
    (Ideal.ofBits .f32 0x3F800000#32 + Ideal.exp (-min (Ideal.ofBits .f32 0x42700000#32) (max (Ideal.ofBits .f32 0xC2700000#32)
      (Host.dotGeneral dot_S2048x2048_S2048x2048_S2048x2048_1_0_0_1_n_n none X W (ix2 a b))))) = _
  rw [hd, Ideal.ofBits_one_f32, word_sixty, word_neg_sixty]
  rfl

/-- Its run: the result at that composition of the arguments, the arguments as they were, every counter at zero. -/
theorem run_reference (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c.tc : Thread nD τ).loc main_v6)
          = refOut (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨h, sem_eq_zero_of_no_sems (by decide) r.2⟩) (Cert.ReferenceIdeal.Value.run (F := Ideal) m ρ)

end Cert.Exchange

end
-- ==== Proof.Value.lean ====
/-
# The results compared

Read at an index, a row of a device's result is the activation of a row of the left operand, held by the device the row block
came from, times a column of the right operand. The reference's result is the same over the whole arrays. The left operand is
cut by rows and the result by columns, so the one is a block of the other.
-/
module

public import proofs.«01_k».proof.Proof.Pieces
public import proofs.«01_k».proof.Proof.Reference
public import proofs.«01_k».proof.Proof.Gen.Pre_unclipped_KernelIdeal
public import Idealize.ShloMosaic.Lib.Layout
public import Idealize.ShloMosaic.Lib.MatmulPlain
public import Idealize.ShloMosaic.Lib.StackMember
public import Idealize.ShloMosaic.Lib.ReduceAll
public import Idealize.ShloMosaic.Lib.KernelVsHost

@[expose] public section

noncomputable section

namespace Cert.Exchange

open Cert.KernelIdeal Cert.KernelIdeal.Gen
open Idealize.ShloMosaic Idealize.ShloMosaic.TcCoe Idealize.ShloMosaic.ValueIdx

/-! ## The kernel's side -/

/-- A tile at an index. -/
theorem lin_apply (x : FVec Ideal S256x2048 .f32) (w : FVec Ideal S2048x256 .f32) (a b : Fin 256) : lin x w (ix2 a b) = dotRow x w a b := by
  unfold lin matmul dotRow
  rw [show dot_S256x2048_S2048x256_S256x256_1_0_0_1_n_n = DotDims.plain 256 2048 256 from rfl, Ideal.matmul_plain_apply]
  rw [show (constant S256x256 .f32 0x00000000#32 : FVec Ideal S256x256 .f32) (ix2 a b) = 0 from Ideal.ofBits_zero_f32, zero_add]
/-- Its activation at an index. -/
theorem act_apply (x : FVec Ideal S256x2048 .f32) (w : FVec Ideal S2048x256 .f32) (a b : Fin 256) : act x w (ix2 a b) = silu (dotRow x w a b) := by
  show lin x w (ix2 a b) * Ideal.logistic (lin x w (ix2 a b)) = _
  rw [lin_apply]; rfl

variable (m : (ℓ : Loc nD τ sig) → Buf (Elt Ideal) ℓ)

/-- Rounding for the wire changes nothing here, so every row block is the activation of its sender's tile. -/
theorem outv_apply (c : Dev nD) (d : Fin 8) (a b : Fin 256) : outv m c d (ix2 a b) = silu (dotRow (xv m (c - d)) (wv m (c - d) c) a b) := by
  unfold outv
  by_cases h : d = 0
  · rw [if_pos h, act_apply, h, show (c - 0 : Dev nD) = c from by revert c; decide]
  · rw [if_neg h]
    exact act_apply _ _ _ _

/-- Column block `k` of the right operand, at an index. -/
theorem wv_apply (c : Dev nD) (k : Fin 8) (t : Fin 2048) (b : Fin 256) :
    wv m c k (ix2 t b) = (m ((c : Thread nD τ).loc main_arg1) : FVec Ideal S2048x2048 .f32) (ix2 t ⟨256 * k.val + b.val, by omega⟩) := by
  show (m ((c : Thread nD τ).loc main_arg1) : FVec Ideal S2048x2048 .f32) ((wcolR k).emb (ix2 t b)) = _
  refine congrArg _ (funext fun i => Fin.ext ?_)
  match i with
  | ⟨0, _⟩ => show 0 + 1 * t.val = t.val; omega
  | ⟨1, _⟩ => show 256 * k.val + 1 * b.val = 256 * k.val + b.val; omega

/-! ## The precondition -/

instance : Subsingleton (Cert.Pre_unclipped_KernelIdeal.S_).Idx := ⟨fun a b => funext fun i => i.elim0⟩

/-- It bounds every row times column of a device's blocks. -/
theorem bounded (x : FVec Ideal S256x2048 .f32) (w : FVec Ideal S2048x2048 .f32)
    (h : Cert.Pre_unclipped_KernelIdeal.fn (F := Ideal) x w = fun _ => 1#1) (a : Fin 256) (b : Fin 2048) :
    max (dotRow x w a b) (-dotRow x w a b) ≤ ((60 : ℝ) : EReal) := by
  have e := Host.reduce_andi_all _ _ _ _ (fun i => i.elim0) (congrFun h fun i => i.elim0) (ix2 a b)
  have hd : Host.dotGeneral Cert.Pre_unclipped_KernelIdeal.dot_S256x2048_S2048x2048_S256x2048_1_0_0_1_n_n none x w (ix2 a b) = dotRow x w a b :=
    StackMember.dotGeneral_plain_apply none x w a b
  have e' : Ideal.cmp .ole (max (dotRow x w a b) (-dotRow x w a b)) (Ideal.ofBits .f32 0x42700000#32) = 1#1 := by
    rw [← hd]; exact e
  rw [word_sixty] at e'
  by_contra hn
  rw [show Ideal.cmp .ole (max (dotRow x w a b) (-dotRow x w a b)) ((60 : ℝ) : EReal) = BitVec.ofBool (decide (_ ≤ _)) from rfl, decide_eq_false hn] at e'
  exact absurd e' (by decide)

/-! ## The two compared -/

/-- A row block of `X` times a column block of `W`: the same entry of the whole product. -/
theorem dotRow_block (X W : FVec Ideal S2048x2048 .f32) (k c : Fin 8) (a b : Fin 256) (x : FVec Ideal S256x2048 .f32) (w : FVec Ideal S2048x256 .f32)
    (hx : ∀ t, x (ix2 a t) = X (ix2 ⟨256 * k.val + a.val, by omega⟩ t)) (hw : ∀ t, w (ix2 t b) = W (ix2 t ⟨256 * c.val + b.val, by omega⟩)) :
    dotRow x w a b = dotRow X W ⟨256 * k.val + a.val, by omega⟩ ⟨256 * c.val + b.val, by omega⟩ :=
  Finset.sum_congr rfl fun t _ => by rw [hx, hw]

/-- Where nothing is clipped, a device's result is its column block of the reference's. -/
theorem outAll_block (X W : FVec Ideal S2048x2048 .f32)
    (hx : ∀ c : Dev nD, m ((c : Thread nD τ).loc main_arg0) = Layout.block ⟨2, ![256, 2048]⟩ ⟨2, ![2048, 2048]⟩ 0 8 c X)
    (hw : ∀ c : Dev nD, m ((c : Thread nD τ).loc main_arg1) = W)
    (hp : ∀ c : Dev nD, Cert.Pre_unclipped_KernelIdeal.fn (F := Ideal) (m ((c : Thread nD τ).loc main_arg0))
      (m ((c : Thread nD τ).loc main_arg1)) = fun _ => 1#1) (c : Dev nD) :
    outAll m c = Layout.block ⟨2, ![2048, 256]⟩ ⟨2, ![2048, 2048]⟩ 1 8 c (refOut X W) := by
  funext i
  have hi : (i 0).val < 2048 := (i 0).isLt
  have hc : c.val < 8 := c.isLt
  let k : Fin 8 := rowOf i
  let a : Fin 256 := ⟨(i 0).val % 256, Nat.mod_lt _ (by decide)⟩
  let b : Fin 256 := i 1
  have hk : 256 * k.val + a.val = (i 0).val := Nat.div_add_mod _ _
  have hin : inRow i = ix2 a b := funext fun t => by
    match t with
    | ⟨0, _⟩ => rfl
    | ⟨1, _⟩ => rfl
  have hxk : ∀ t, xv m k (ix2 a t) = X (ix2 ⟨256 * k.val + a.val, by omega⟩ t) := fun t => by
    rw [show xv m k = _ from hx k, Layout.block_apply]
    refine congrArg X (funext fun e => Fin.ext ?_)
    match e with
    | ⟨0, _⟩ => exact ((Layout.idx_rows_val _ k (ix2 a t)).1).trans (by show k.val * 256 + a.val = 256 * k.val + a.val; omega)
    | ⟨1, _⟩ => exact (Layout.idx_rows_val _ k (ix2 a t)).2
  have hwk : ∀ t, wv m k c (ix2 t b) = W (ix2 t ⟨256 * c.val + b.val, by omega⟩) := fun t => by
    rw [wv_apply, hw k]
  have hb : max (dotRow (xv m k) (wv m k c) a b) (-dotRow (xv m k) (wv m k c) a b) ≤ ((60 : ℝ) : EReal) := by
    have h := bounded _ _ (hp k) a ⟨256 * c.val + b.val, by omega⟩
    rwa [show dotRow (xv m k) (wv m k c) a b = dotRow (xv m k) (m ((k : Thread nD τ).loc main_arg1)) a ⟨256 * c.val + b.val, by omega⟩
      from Finset.sum_congr rfl fun t _ => by rw [wv_apply]]
  rw [Layout.block_apply]
  show outv m c (c - rowOf i) (inRow i) = _
  rw [hin, outv_apply, behind_twice, ← refAct_eq hb, dotRow_block X W k c a b _ _ hxk hwk, ← refOut_apply]
  refine congrArg (refOut X W) (funext fun e => Fin.ext ?_)
  match e with
  | ⟨0, _⟩ => exact hk.trans (Layout.idx_cols_val _ c i).1.symm
  | ⟨1, _⟩ => exact Eq.trans (by show 256 * c.val + (i 1).val = c.val * 256 + (i 1).val; omega) (Layout.idx_cols_val _ c i).2.symm

end Cert.Exchange

end
-- ==== Proof.lean ====
/-
# The certificate

The kernel's frames and the reference's are read off their runs (Proof/Run.lean, Proof/Reference.lean), and the value claim
puts the two runs beside the comparison of their results (Proof/Value.lean).
-/
module

public import proofs.«01_k».proof.Defs
public import proofs.«01_k».proof.Proof.Gen.Kernel
public import proofs.«01_k».proof.Proof.Gen.Pre_unclipped_ReferenceIdeal
public import proofs.«01_k».proof.Proof.Run
public import proofs.«01_k».proof.Proof.Value

@[expose] public section

noncomputable section

namespace Cert.Proof

open Idealize.ShloMosaic Idealize.SL.Sem Cert.Exchange

/-- The kernel over the float words themselves: every execution ends, the arguments unchanged, every counter zero. -/
theorem frame_kernel : Cert.quiescent_Kernel := fun m ρ _ =>
  (θ_run Cert.KernelIdeal.defs _ _).mono (fun _ h => ⟨fun c => ⟨(h.1 c).1, (h.1 c).2.1⟩, h.2⟩) (run_main (F := Bits) m ρ)

/-- The same at the extended reals, -/
theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- and the reference's. -/
theorem frame_reference : Cert.quiescent_ReferenceIdeal := fun m ρ _ =>
  (θ_run Cert.ReferenceIdeal.defs _ _).mono (fun _ h => ⟨fun c => (h.1 c).2, h.2⟩) (run_reference m ρ)

/-- Where no product is clipped, device `c`'s result ends as column block `c` of the reference's result. -/
theorem value : Cert.algebraic_KernelIdeal_ReferenceIdeal_pre_unclipped_KernelIdeal := fun m ρ m' ρ' hp hm =>
  ⟨refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).2.2.trans (outAll_block m _ _ (fun d => (hm d).1) (fun d => (hm d).2) hp c), (h.1 c).1, (h.1 c).2.1⟩)
      (run_main (F := Ideal) m ρ),
    (θ_run Cert.ReferenceIdeal.defs _ _).mono (fun _ h => h.1 0) (run_reference m' ρ')⟩

/-- Everything the certificate claims. -/
theorem claim : Cert.Claim :=
  ⟨Cert.Kernel.Gen.facts, Cert.KernelIdeal.Gen.facts, Cert.ReferenceIdeal.Gen.facts, Cert.Pre_unclipped_KernelIdeal.Gen.facts,
    Cert.Pre_unclipped_ReferenceIdeal.Gen.facts, frame_kernel, frame_ideal, fun m ρ _ => frame_ideal m ρ trivial, frame_reference,
    fun m ρ _ => frame_reference m ρ trivial, trivial, value⟩

end Cert.Proof

end
